-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x768x2048 : Shape := ⟨3, ![1, 768, 2048]⟩
abbrev S5632x1024 : Shape := ⟨2, ![5632, 1024]⟩
abbrev S5632x16 : Shape := ⟨2, ![5632, 16]⟩
abbrev S768x2048 : Shape := ⟨2, ![768, 2048]⟩
abbrev S768x5632 : Shape := ⟨2, ![768, 5632]⟩
abbrev S768x1024 : Shape := ⟨2, ![768, 1024]⟩
abbrev S768x16 : Shape := ⟨2, ![768, 16]⟩
abbrev S512x1024 : Shape := ⟨2, ![512, 1024]⟩
abbrev S512x16 : Shape := ⟨2, ![512, 16]⟩
abbrev S768x512 : Shape := ⟨2, ![768, 512]⟩
abbrev S512x2048 : Shape := ⟨2, ![512, 2048]⟩
abbrev S128x128 : Shape := ⟨2, ![128, 128]⟩
abbrev S128x16 : Shape := ⟨2, ![128, 16]⟩
abbrev S128 : Shape := ⟨1, ![128]⟩
abbrev S128x1 : Shape := ⟨2, ![128, 1]⟩
abbrev S128x128x1 : Shape := ⟨3, ![128, 128, 1]⟩
abbrev S512x128 : Shape := ⟨2, ![512, 128]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S1x768x2048, .bf16⟩
  | .hbm, ⟨1, _⟩ => ⟨S5632x1024, .i8⟩
  | .hbm, ⟨2, _⟩ => ⟨S5632x16, .f32⟩
  | .hbm, ⟨3, _⟩ => ⟨S768x2048, .bf16⟩
  | .hbm, ⟨4, _⟩ => ⟨S768x5632, .bf16⟩
  | .hbm, ⟨5, _⟩ => ⟨S768x1024, .i8⟩
  | .hbm, ⟨6, _⟩ => ⟨S768x16, .f32⟩
  | .hbm, ⟨7, _⟩ => ⟨S768x16, .i8⟩
  | .local _ .vmem, ⟨0, _⟩ => ⟨S768x2048, .bf16⟩
  | .local _ .vmem, ⟨1, _⟩ => ⟨S512x1024, .i8⟩
  | .local _ .vmem, ⟨2, _⟩ => ⟨S512x1024, .i8⟩
  | .local _ .vmem, ⟨3, _⟩ => ⟨S512x16, .f32⟩
  | .local _ .vmem, ⟨4, _⟩ => ⟨S512x16, .f32⟩
  | .local _ .vmem, ⟨5, _⟩ => ⟨S768x512, .bf16⟩
  | .local _ .vmem, ⟨6, _⟩ => ⟨S768x512, .bf16⟩
  | .local _ .vmem, ⟨7, _⟩ => ⟨S768x1024, .i8⟩
  | .local _ .vmem, ⟨8, _⟩ => ⟨S768x16, .f32⟩
  | .local _ .vmem, ⟨9, _⟩ => ⟨S768x16, .i8⟩
  | .local _ .vmem, ⟨10, _⟩ => ⟨S768x2048, .bf16⟩
  | .local _ .vmem, ⟨11, _⟩ => ⟨S512x2048, .bf16⟩
  | _, _ => ⟨S1x768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_71 : BitVec 32 := 0#32
  let c6_i32 : BitVec 32 := 6#32
  let v253 : BitVec 32 := Scalar.addi c0_i32_71 c6_i32
  let c1_i32 : BitVec 32 := 1#32
  ⟨c0_i32_71, v253, c1_i32⟩
def k0_mult1 (k0_t1 : Fin k0_t1_loop.trips) : BitVec 32 :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  v254
def k0_off1 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v283 : Index := Scalar.indexCast v255
  let c0_83 : Index := 0#32
  ![v283.toNat, 0]
def k0_off2 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v332 : Index := Scalar.indexCast v255
  let c128_97 : Index := 128#32
  ![v332.toNat, 128]
def k0_off3 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v401 : Index := Scalar.indexCast v255
  let c0_112 : Index := 0#32
  ![v401.toNat, 0]
def k0_off4 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v413 : Index := Scalar.indexCast v255
  let c1024_114 : Index := 1024#32
  ![v413.toNat, 1024]
def k0_off5 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v417 : Index := Scalar.indexCast v255
  let c256_115 : Index := 256#32
  ![v417.toNat, 256]
def k0_off6 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v466 : Index := Scalar.indexCast v255
  let c384_129 : Index := 384#32
  ![v466.toNat, 384]
def k0_off7 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v535 : Index := Scalar.indexCast v255
  let c128_144 : Index := 128#32
  ![v535.toNat, 128]
def k0_off8 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v547 : Index := Scalar.indexCast v255
  let c1152_146 : Index := 1152#32
  ![v547.toNat, 1152]
def k0_off9 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v551 : Index := Scalar.indexCast v255
  let c512_147 : Index := 512#32
  ![v551.toNat, 512]
def k0_off10 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v600 : Index := Scalar.indexCast v255
  let c640_161 : Index := 640#32
  ![v600.toNat, 640]
def k0_off11 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v669 : Index := Scalar.indexCast v255
  let c256_176 : Index := 256#32
  ![v669.toNat, 256]
def k0_off12 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v681 : Index := Scalar.indexCast v255
  let c1280_178 : Index := 1280#32
  ![v681.toNat, 1280]
def k0_off13 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v685 : Index := Scalar.indexCast v255
  let c768_179 : Index := 768#32
  ![v685.toNat, 768]
def k0_off14 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v734 : Index := Scalar.indexCast v255
  let c896_193 : Index := 896#32
  ![v734.toNat, 896]
def k0_off15 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v803 : Index := Scalar.indexCast v255
  let c384_208 : Index := 384#32
  ![v803.toNat, 384]
def k0_off16 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v815 : Index := Scalar.indexCast v255
  let c1408_210 : Index := 1408#32
  ![v815.toNat, 1408]
def k0_off17 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v937 : Index := Scalar.indexCast v255
  let c512_239 : Index := 512#32
  ![v937.toNat, 512]
def k0_off18 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v949 : Index := Scalar.indexCast v255
  let c1536_241 : Index := 1536#32
  ![v949.toNat, 1536]
def k0_off19 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v1071 : Index := Scalar.indexCast v255
  let c640_270 : Index := 640#32
  ![v1071.toNat, 640]
def k0_off20 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v1083 : Index := Scalar.indexCast v255
  let c1664_272 : Index := 1664#32
  ![v1083.toNat, 1664]
def k0_off21 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v1205 : Index := Scalar.indexCast v255
  let c768_301 : Index := 768#32
  ![v1205.toNat, 768]
def k0_off22 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v1217 : Index := Scalar.indexCast v255
  let c1792_303 : Index := 1792#32
  ![v1217.toNat, 1792]
def k0_off23 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v1270 : Index := Scalar.indexCast v255
  let c1920_317 : Index := 1920#32
  ![v1270.toNat, 1920]
def k0_off24 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v1339 : Index := Scalar.indexCast v255
  let c896_332 : Index := 896#32
  ![v1339.toNat, 896]
def k0_off25 (k0_t1 : Fin k0_t1_loop.trips) : Fin 2 → Nat :=
  let c0_i32_71 : BitVec 32 := 0#32
  let c1_i32 : BitVec 32 := 1#32
  let arg10 : BitVec 32 := Scf.iv c0_i32_71 c1_i32 k0_t1
  let c128_i32 : BitVec 32 := 128#32
  let v254 : BitVec 32 := Scalar.muli arg10 c128_i32
  let v255 : BitVec 32 := v254
  let v1355 : Index := Scalar.indexCast v255
  let c0_335 : Index := 0#32
  ![v1355.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S768x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x16 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x768x2048 : Shape := ⟨3, ![1, 768, 2048]⟩
abbrev S5632x1024 : Shape := ⟨2, ![5632, 1024]⟩
abbrev S5632x16 : Shape := ⟨2, ![5632, 16]⟩
abbrev S2 : Shape := ⟨1, ![2]⟩
abbrev S1x768x16x128 : Shape := ⟨4, ![1, 768, 16, 128]⟩
abbrev S_ : Shape := ⟨0, ![]⟩
abbrev S1x768x16 : Shape := ⟨3, ![1, 768, 16]⟩
abbrev S1x768x16x1 : Shape := ⟨4, ![1, 768, 16, 1]⟩
abbrev S1x768x1024x2 : Shape := ⟨4, ![1, 768, 1024, 2]⟩
abbrev S1x768x1024x1 : Shape := ⟨4, ![1, 768, 1024, 1]⟩
abbrev S1x768x1024 : Shape := ⟨3, ![1, 768, 1024]⟩
abbrev S1x768x2x1024 : Shape := ⟨4, ![1, 768, 2, 1024]⟩
abbrev S1x2x1 : Shape := ⟨3, ![1, 2, 1]⟩
abbrev S5632x1x1024 : Shape := ⟨3, ![5632, 1, 1024]⟩
abbrev S5632x2x1024 : Shape := ⟨3, ![5632, 2, 1024]⟩
abbrev S5632x2x16x64 : Shape := ⟨4, ![5632, 2, 16, 64]⟩
abbrev S5632x1x16x1 : Shape := ⟨4, ![5632, 1, 16, 1]⟩
abbrev S1x768x5632 : Shape := ⟨3, ![1, 768, 5632]⟩
abbrev S768x5632 : Shape := ⟨2, ![768, 5632]⟩
abbrev S768x1024 : Shape := ⟨2, ![768, 1024]⟩
abbrev S768x16 : Shape := ⟨2, ![768, 16]⟩

abbrev nBuf : Space → Nat
  | .hbm => 92
  | .vmem => 0
  | .smem => 0
  | _ => 0

abbrev bufTy : (tb : Table) → Fin (tcTables nBuf tb) → BufTy
  | .hbm, ⟨0, _⟩ => ⟨S1x768x2048, .bf16⟩
  | .hbm, ⟨1, _⟩ => ⟨S5632x1024, .i8⟩
  | .hbm, ⟨2, _⟩ => ⟨S5632x16, .f32⟩
  | .hbm, ⟨3, _⟩ => ⟨S2, .i32⟩
  | .hbm, ⟨4, _⟩ => ⟨S1x768x2048, .f32⟩
  | .hbm, ⟨5, _⟩ => ⟨S1x768x16x128, .f32⟩
  | .hbm, ⟨6, _⟩ => ⟨S_, .f32⟩
  | .hbm, ⟨7, _⟩ => ⟨S1x768x16, .f32⟩
  | .hbm, ⟨8, _⟩ => ⟨S_, .f32⟩
  | .hbm, ⟨9, _⟩ => ⟨S1x768x16, .f32⟩
  | .hbm, ⟨10, _⟩ => ⟨S1x768x16, .f32⟩
  | .hbm, ⟨11, _⟩ => ⟨S_, .f32⟩
  | .hbm, ⟨12, _⟩ => ⟨S1x768x16, .f32⟩
  | .hbm, ⟨13, _⟩ => ⟨S_, .f32⟩
  | .hbm, ⟨14, _⟩ => ⟨S1x768x16, .f32⟩
  | .hbm, ⟨15, _⟩ => ⟨S1x768x16, .f32⟩
  | .hbm, ⟨16, _⟩ => ⟨S1x768x16, .i1⟩
  | .hbm, ⟨17, _⟩ => ⟨S1x768x16, .f32⟩
  | .hbm, ⟨18, _⟩ => ⟨S_, .f32⟩
  | .hbm, ⟨19, _⟩ => ⟨S1x768x16, .f32⟩
  | .hbm, ⟨20, _⟩ => ⟨S1x768x16, .f32⟩
  | .hbm, ⟨21, _⟩ => ⟨S_, .f32⟩
  | .hbm, ⟨22, _⟩ => ⟨S_, .f32⟩
  | .hbm, ⟨23, _⟩ => ⟨S1x768x16, .f32⟩
  | .hbm, ⟨24, _⟩ => ⟨S1x768x16, .f32⟩
  | .hbm, ⟨25, _⟩ => ⟨S1x768x16, .f32⟩
  | .hbm, ⟨26, _⟩ => ⟨S1x768x16, .f32⟩
  | .hbm, ⟨27, _⟩ => ⟨S1x768x16, .f32⟩
  | .hbm, ⟨28, _⟩ => ⟨S1x768x16x1, .f32⟩
  | .hbm, ⟨29, _⟩ => ⟨S1x768x16x128, .f32⟩
  | .hbm, ⟨30, _⟩ => ⟨S1x768x16x128, .f32⟩
  | .hbm, ⟨31, _⟩ => ⟨S1x768x16x128, .f32⟩
  | .hbm, ⟨32, _⟩ => ⟨S1x768x16x1, .f32⟩
  | .hbm, ⟨33, _⟩ => ⟨S1x768x16x128, .f32⟩
  | .hbm, ⟨34, _⟩ => ⟨S1x768x16x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1x768x16x128, .f32⟩
  | .hbm, ⟨39, _⟩ => ⟨S1x768x16x128, .f32⟩
  | .hbm, ⟨40, _⟩ => ⟨S_, .f32⟩
  | .hbm, ⟨41, _⟩ => ⟨S1x768x16x128, .f32⟩
  | .hbm, ⟨42, _⟩ => ⟨S1x768x16x128, .f32⟩
  | .hbm, ⟨43, _⟩ => ⟨S1x768x16x128, .i32⟩
  | .hbm, ⟨44, _⟩ => ⟨S1x768x16x128, .i8⟩
  | .hbm, ⟨45, _⟩ => ⟨S1x768x16, .i32⟩
  | .hbm, ⟨46, _⟩ => ⟨S1x768x16, .i8⟩
  | .hbm, ⟨47, _⟩ => ⟨S1x768x16x128, .i32⟩
  | .hbm, ⟨48, _⟩ => ⟨S1x768x1024x2, .i32⟩
  | .hbm, ⟨49, _⟩ => ⟨S1x768x1024x1, .i32⟩
  | .hbm, ⟨50, _⟩ => ⟨S1x768x1024, .i32⟩
  | .hbm, ⟨51, _⟩ => ⟨S1x768x1024x1, .i32⟩
  | .hbm, ⟨52, _⟩ => ⟨S1x768x1024, .i32⟩
  | .hbm, ⟨53, _⟩ => ⟨S_, .i32⟩
  | .hbm, ⟨54, _⟩ => ⟨S1x768x1024, .i32⟩
  | .hbm, ⟨55, _⟩ => ⟨S1x768x1024, .i32⟩
  | .hbm, ⟨56, _⟩ => ⟨S1x768x1024, .i32⟩
  | .hbm, ⟨57, _⟩ => ⟨S1x768x1024, .i8⟩
  | .hbm, ⟨58, _⟩ => ⟨S1x768x16x128, .i32⟩
  | .hbm, ⟨59, _⟩ => ⟨S1x768x16, .i32⟩
  | .hbm, ⟨60, _⟩ => ⟨S1x768x16x1, .i32⟩
  | .hbm, ⟨61, _⟩ => ⟨S1x768x16x128, .i32⟩
  | .hbm, ⟨62, _⟩ => ⟨S1x768x16x128, .i32⟩
  | .hbm, ⟨63, _⟩ => ⟨S1x768x16x128, .bf16⟩
  | .hbm, ⟨64, _⟩ => ⟨S1x768x16, .bf16⟩
  | .hbm, ⟨65, _⟩ => ⟨S1x768x16x1, .bf16⟩
  | .hbm, ⟨66, _⟩ => ⟨S1x768x16x128, .bf16⟩
  | .hbm, ⟨67, _⟩ => ⟨S1x768x16x128, .bf16⟩
  | .hbm, ⟨68, _⟩ => ⟨S1x768x1024x2, .bf16⟩
  | .hbm, ⟨69, _⟩ => ⟨S1x768x2x1024, .bf16⟩
  | .hbm, ⟨70, _⟩ => ⟨S1x2x1, .i32⟩
  | .hbm, ⟨71, _⟩ => ⟨S5632x1024, .i32⟩
  | .hbm, ⟨72, _⟩ => ⟨S5632x1x1024, .i32⟩
  | .hbm, ⟨73, _⟩ => ⟨S5632x2x1024, .i32⟩
  | .hbm, ⟨74, _⟩ => ⟨S5632x2x1024, .i32⟩
  | .hbm, ⟨75, _⟩ => ⟨S5632x2x1024, .i32⟩
  | .hbm, ⟨76, _⟩ => ⟨S_, .i32⟩
  | .hbm, ⟨77, _⟩ => ⟨S5632x2x1024, .i32⟩
  | .hbm, ⟨78, _⟩ => ⟨S5632x2x1024, .i32⟩
  | .hbm, ⟨79, _⟩ => ⟨S5632x2x1024, .bf16⟩
  | .hbm, ⟨80, _⟩ => ⟨S5632x2x16x64, .bf16⟩
  | .hbm, ⟨81, _⟩ => ⟨S5632x16, .bf16⟩
  | .hbm, ⟨82, _⟩ => ⟨S5632x1x16x1, .bf16⟩
  | .hbm, ⟨83, _⟩ => ⟨S5632x2x16x64, .bf16⟩
  | .hbm, ⟨84, _⟩ => ⟨S5632x2x16x64, .bf16⟩
  | .hbm, ⟨85, _⟩ => ⟨S5632x2x1024, .bf16⟩
  | .hbm, ⟨86, _⟩ => ⟨S1x768x5632, .f32⟩
  | .hbm, ⟨87, _⟩ => ⟨S1x768x5632, .bf16⟩
  | .hbm, ⟨88, _⟩ => ⟨S768x5632, .bf16⟩
  | .hbm, ⟨89, _⟩ => ⟨S768x1024, .i8⟩
  | .hbm, ⟨90, _⟩ => ⟨S768x16, .f32⟩
  | .hbm, ⟨91, _⟩ => ⟨S768x16, .i8⟩
  | _, _ => ⟨S1x768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_cst_6 : Ref sig .tc := ⟨.hbm, 36, rfl⟩
abbrev main_call3_v0 : Ref sig .tc := ⟨.hbm, 37, rfl⟩
abbrev main_call3_v1 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_8 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩

abbrev nD : Nat := 1
abbrev τ : Topo := Topo.v7x

variable {F : FTy → Type} [FloatOps F]
-- ==== Proof.KernelFrame.lean ====
/-
  The kernel's frame: it ends without fault, leaves its arguments as they were and every semaphore at zero. Nothing is said
  of what it leaves in its outputs, so the proof data forgets the four output windows; the body is run once for the first
  grid point, where the activations are quantised, and once for the others.
-/
module

public import proofs.«01_k».proof.Proof.Gen.Kernel.Frame
public import proofs.«01_k».proof.Proof.Gen.Kernel.Skeleton
public import proofs.«01_k».proof.Proof.Gen.Kernel.Loops
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 11 = 0 :=
  (fun t => by
    have ht : t.val < 11 := Nat.lt_of_lt_of_eq t.isLt N_0
    have e0 : (grid0.coords t 0).val = t.val / 1 % 11 := Pipeline.Grid.coords_val t 0 (by decide) rfl
    simp only [cond0_0, k0_cond1, e0]
    word_cmp
   : ∀ t : Fin grid0.N, cond0_0 (grid0.coords t) ↔ t.val % 11 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S768x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x16 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S768x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x1024 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S768x16 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S768x16 .i8 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S768x2048 .bf16 := Memref.whole cc0_scratch0
abbrev scM0_1 : Memref sig .tc .vmem S512x2048 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 1000000 in
/-- The body's triple IN CASE A (`scf.if` 0 taken: points 0): on whole staging memrefs — the inputs' at their contents,
    the FORGOTTEN outputs' (3, 4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S768x2048 .bf16) (harg1 : arg1.IsWhole) (arg2 : Memref sig .tc .vmem S512x1024 .i8) (harg2 : arg2.IsWhole) (arg3 : Memref sig .tc .vmem S512x16 .f32) (harg3 : arg3.IsWhole) (arg4 : Memref sig .tc .vmem S768x512 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x2048 .bf16) (harg8 : arg8.IsWhole) (arg9 : Memref sig .tc .vmem S512x2048 .bf16) (harg9 : arg9.IsWhole) (hc0 : cond0_0 i)
    (x0 : Vec F S768x2048 .bf16) (x1 : Vec F S512x1024 .i8) (x2 : Vec F S512x16 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_w4a4_linear i arg1 harg1 arg2 harg2 arg3 harg3 arg4 harg4 arg5 harg5 arg6 harg6 arg7 harg7 arg8 harg8 arg9 harg9) K := by
    intro E K
    simp only [cc0_w4a4_linear_eq_skeleton]; unfold cc0_w4a4_linear_skel
    simp only [k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

-- (the run's proof term is large: checking it walks past the default budget)
set_option maxHeartbeats 1000000 in
/-- The body's triple IN CASE B (`scf.if` 0 not taken: points 1, 2, … 10: 10 of 11): on whole staging memrefs — the inputs' at their contents,
    the FORGOTTEN outputs' (3, 4, 5, 6) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S768x2048 .bf16) (harg1 : arg1.IsWhole) (arg2 : Memref sig .tc .vmem S512x1024 .i8) (harg2 : arg2.IsWhole) (arg3 : Memref sig .tc .vmem S512x16 .f32) (harg3 : arg3.IsWhole) (arg4 : Memref sig .tc .vmem S768x512 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x2048 .bf16) (harg8 : arg8.IsWhole) (arg9 : Memref sig .tc .vmem S512x2048 .bf16) (harg9 : arg9.IsWhole) (hc0 : ¬cond0_0 i)
    (x0 : Vec F S768x2048 .bf16) (x1 : Vec F S512x1024 .i8) (x2 : Vec F S512x16 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_w4a4_linear i arg1 harg1 arg2 harg2 arg3 harg3 arg4 harg4 arg5 harg5 arg6 harg6 arg7 harg7 arg8 harg8 arg9 harg9) K := by
    intro E K
    simp only [cc0_w4a4_linear_eq_skeleton]; unfold cc0_w4a4_linear_skel
    simp only [k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (3, 4, 5, 6): nothing reads what the kernel leaves in them, so nothing
    of it is named (Lib/Pipeline/Dat.lean `Dat.toRForget`). -/
def forgets0 : Fin 7 → Bool := fun w => w.val == 3 || w.val == 4 || w.val == 5 || w.val == 6

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 11 := lt_of_lt_of_eq t.isLt (show cfg0.N = 11 from N_0)
  by_cases h0 : t.val % 11 = 0
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_A c (grid0.coords t) _ _ _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun0_B c (grid0.coords t) _ _ _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every INPUT array of the pipeline unchanged, nothing stated of the
    FORGOTTEN outputs (windows 3, 4, 5, 6) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_rel m ρ (fun c => (dats m 0 c).toRForget forgets0) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run

end
-- ==== Proof.Quant.lean ====
/-
  What the kernel computes, in the kernel's own operations and at any float instance: from one 128 × 128 block of
  activations the scale, zero point and codes of its rows, from two neighbouring blocks the packed codes and the
  dequantised activations, and from the whole activation array the four arrays the first grid point leaves behind.
-/
module

public import proofs.«01_k».proof.Proof.Gen.KernelIdeal.Skeleton
public import Idealize.ShloMosaic.Lib.ValueIdx

@[expose] public section

noncomputable section

namespace Cert.KernelIdeal.Quant

open Idealize.ShloMosaic Cert.KernelIdeal Cert.KernelIdeal.Gen
open Idealize.ShloMosaic.ValueIdx (ix2)

variable {F : FTy → Type} [FloatOps F]

/-- The zero constant. -/
abbrev c0 : F .f32 := Scalar.ofBits .f32 0x00000000#32
/-- The constant one. -/
abbrev c1 : F .f32 := Scalar.ofBits .f32 0x3F800000#32
/-- The largest code, fifteen. -/
abbrev c15 : F .f32 := Scalar.ofBits .f32 0x41700000#32

/-- One block of activations, widened. -/
def gx (X : Vec F S128x128 .bf16) : FVec F S128x128 .f32 :=
  extf .f32 (shapeCast S128x128 X shapeCasts_S128x128_S128x128) bitsLt_bf16_f32

/-- Each row's least entry, capped at zero. -/
def glo (X : Vec F S128x128 .bf16) : FVec F S128x1 .f32 :=
  minimumf (shapeCast S128x1 (multiReduction .minimumf [1] S128 (gx X) 0x7F800000#32 reduces_S128x128_S128 (.inl rfl) rfl)
    shapeCasts_S128_S128x1) (broadcast S128x1 c0)

/-- Each row's greatest entry, floored at zero. -/
def ghi (X : Vec F S128x128 .bf16) : FVec F S128x1 .f32 :=
  maximumf (shapeCast S128x1 (multiReduction .maximumf [1] S128 (gx X) 0xFF800000#32 reduces_S128x128_S128 (.inl rfl) rfl)
    shapeCasts_S128_S128x1) (broadcast S128x1 c0)

/-- Each row's scale: a fifteenth of its range, and one where the range is empty. -/
def gs (X : Vec F S128x128 .bf16) : FVec F S128x1 .f32 :=
  select (cmpf .oeq (ghi X) (glo X)) (broadcast S128x1 c1) (divf (subf (ghi X) (glo X)) (broadcast S128x1 c15))

/-- Each row's zero point. -/
def gz (X : Vec F S128x128 .bf16) : FVec F S128x1 .f32 :=
  roundeven (divf (subf (broadcast S128x1 c0) (glo X)) (gs X))

/-- The codes of a block. -/
def gcode (X : Vec F S128x128 .bf16) : FVec F S128x128 .f32 :=
  minimumf (broadcast S128x128 c15) (maximumf (broadcast S128x128 c0)
    (addf (roundeven (divf (gx X) (broadcastTo S128x128 (gs X) broadcasts_S128x1_S128x128)))
      (broadcastTo S128x128 (gz X) broadcasts_S128x1_S128x128)))

/-- The lane number. -/
def lane : IVec S128x128 32 := iota .tc S128x128 32 [1] iota_S128x128_d1_w32

/-- The lower 64 lanes. -/
def low : IVec S128x128 1 := cmpi .slt lane (broadcast S128x128 64#32)

/-- The lane order that brings the even entries to the lower half and the odd ones to the upper half. -/
def evenOdd : IVec S128x128 32 :=
  select low (muli (broadcast S128x128 2#32) lane) (subi (muli (broadcast S128x128 2#32) lane) (broadcast S128x128 127#32))

/-- The lane order that brings the odd entries to the lower half and the even ones to the upper half. -/
def oddEven : IVec S128x128 32 :=
  select low (addi (muli (broadcast S128x128 2#32) lane) (broadcast S128x128 1#32))
    (subi (muli (broadcast S128x128 2#32) lane) (broadcast S128x128 128#32))

/-- A block read along a lane order. -/
def along (perm : IVec S128x128 32) (v : FVec F S128x128 .f32) : FVec F S128x128 .f32 :=
  dynamicGather 1 v (shapeCast S128x128 (shapeCast S128x128x1
    (select (cmpi .slt perm (broadcast S128x128 0#32)) (addi perm (broadcast S128x128 128#32)) perm)
    shapeCasts_S128x128_S128x128x1) shapeCasts_S128x128x1_S128x128)

/-- The even-numbered codes of two neighbouring blocks, side by side. -/
def gEven (X0 X1 : Vec F S128x128 .bf16) : FVec F S128x128 .f32 :=
  select low (along evenOdd (gcode X0)) (along oddEven (gcode X1))

/-- The odd-numbered codes of two neighbouring blocks, side by side. -/
def gOdd (X0 X1 : Vec F S128x128 .bf16) : FVec F S128x128 .f32 :=
  dynamicRotate 1 64#32 none (select low (along oddEven (gcode X1)) (along evenOdd (gcode X0))) rotates_S128x128_d1

/-- The two blocks' codes packed two to a byte, the even-numbered in the low half. -/
def gPack (X0 X1 : Vec F S128x128 .bf16) : IVec S128x128 8 :=
  trunci 8 (ori (fptosi 32 (gEven X0 X1)) (shli (fptosi 32 (gOdd X0 X1)) (broadcast S128x128 4#32))) natLt_8_32

/-- A column for the first block's rows and one for the second's, spread over the lower and the upper lanes. -/
def spread (a b : FVec F S128x1 .f32) : FVec F S128x128 .f32 :=
  select low (broadcastTo S128x128 (shapeCast S128x1 a shapeCasts_S128x1_S128x1) broadcasts_S128x1_S128x128)
    (broadcastTo S128x128 (shapeCast S128x1 b shapeCasts_S128x1_S128x1) broadcasts_S128x1_S128x128)

/-- Codes to dequantised activations: the zero point off, the scale on. -/
def deq (codes : FVec F S128x128 .f32) (X0 X1 : Vec F S128x128 .bf16) : FVec F S128x128 .bf16 :=
  shapeCast S128x128 (mulf (truncf .bf16 (subf codes (spread (gz X0) (gz X1))) bitsLt_bf16_f32)
    (truncf .bf16 (spread (gs X0) (gs X1)) bitsLt_bf16_f32)) shapeCasts_S128x128_S128x128

/-- The dequantised even-numbered activations of two neighbouring blocks. -/
def aEven (X0 X1 : Vec F S128x128 .bf16) : FVec F S128x128 .bf16 := deq (gEven X0 X1) X0 X1

/-- The dequantised odd-numbered activations of two neighbouring blocks. -/
def aOdd (X0 X1 : Vec F S128x128 .bf16) : FVec F S128x128 .bf16 := deq (gOdd X0 X1) X0 X1

/-- Write one block's column into lane `n` of the sixteen. -/
def ins (n : BitVec 32) (s : FVec F S128x1 .f32) (prev : FVec F S128x16 .f32) : FVec F S128x16 .f32 :=
  select (cmpi .eq (iota .tc S128x16 32 [1] iota_S128x16_d1_w32) (broadcast S128x16 n))
    (broadcastTo S128x16 (shapeCast S128x1 s shapeCasts_S128x1_S128x1) broadcasts_S128x1_S128x16) prev

/-- Sixteen columns side by side. -/
def cols (s0 s1 s2 s3 s4 s5 s6 s7 s8 s9 s10 s11 s12 s13 s14 s15 : FVec F S128x1 .f32) : FVec F S128x16 .f32 :=
  ins 15#32 s15 (ins 14#32 s14 (ins 13#32 s13 (ins 12#32 s12 (ins 11#32 s11 (ins 10#32 s10 (ins 9#32 s9 (ins 8#32 s8
    (ins 7#32 s7 (ins 6#32 s6 (ins 5#32 s5 (ins 4#32 s4 (ins 3#32 s3 (ins 2#32 s2 (ins 1#32 s1 (ins 0#32 s0
      (broadcast S128x16 c0))))))))))))))))

/-- Zero points as bytes. -/
def zbytes (z : FVec F S128x16 .f32) : IVec S128x16 8 := trunci 8 (fptosi 32 z) natLt_8_32

/-! ## The whole arrays -/

/-- Rows `128 k …` and columns `128 g …` of the activations. -/
def blk (x : Vec F S768x2048 .bf16) (k : Fin 6) (g : Fin 16) : Vec F S128x128 .bf16 := fun j =>
  x (ix2 ⟨128 * k.val + (j 0).val, by have h : (j 0).val < 128 := (j 0).isLt; have := k.isLt; omega⟩
    ⟨128 * g.val + (j 1).val, by have h : (j 1).val < 128 := (j 1).isLt; have := g.isLt; omega⟩)

/-- The row block a row lies in. -/
def rowBlk (r : Fin 768) : Fin 6 := ⟨r.val / 128, by omega⟩
/-- The row within its block. -/
def rowIn (r : Fin 768) : Fin 128 := ⟨r.val % 128, by omega⟩

/-- The packed codes of the activations. -/
def CV (x : Vec F S768x2048 .bf16) : Vec F S768x1024 .i8 := fun y =>
  gPack (blk x (rowBlk (y 0)) (Fin.ofNat 16 (2 * ((y 1).val / 128))))
    (blk x (rowBlk (y 0)) (Fin.ofNat 16 (2 * ((y 1).val / 128) + 1))) (ix2 (rowIn (y 0)) (Fin.ofNat 128 (y 1).val))

/-- The scales of the activations, one per row and group. -/
def SV (x : Vec F S768x2048 .bf16) : Vec F S768x16 .f32 := fun y =>
  gs (blk x (rowBlk (y 0)) (y 1)) (ix2 (rowIn (y 0)) 0)

/-- The zero points of the activations, one per row and group. -/
def ZV (x : Vec F S768x2048 .bf16) : Vec F S768x16 .i8 := fun y =>
  (FloatOps.fptosi 32 (gz (blk x (rowBlk (y 0)) (y 1)) (ix2 (rowIn (y 0)) 0))).setWidth 8

/-- The dequantised activations: first the even-numbered ones of a row, then the odd-numbered. -/
def AV (x : Vec F S768x2048 .bf16) : Vec F S768x2048 .bf16 := fun y =>
  (if (y 1).val < 1024 then aEven else aOdd)
    (blk x (rowBlk (y 0)) (Fin.ofNat 16 (2 * ((y 1).val % 1024 / 128))))
    (blk x (rowBlk (y 0)) (Fin.ofNat 16 (2 * ((y 1).val % 1024 / 128) + 1))) (ix2 (rowIn (y 0)) (Fin.ofNat 128 (y 1).val))

/-- One dequantised weight: a signed 4-bit half of its byte times the group's scale in `bf16`. -/
def wElt (up : BitVec 32) (b : BitVec 8) (s : F .f32) : F .bf16 :=
  FloatOps.mulf (FloatOps.sitofp .bf16 (IntOp.shrsi .vector (IntOp.shli .vector (b.setWidth 32) up) 28#32))
    (FloatOps.truncf .bf16 bitsLt_bf16_f32 (FloatOps.extf .f32 bitsLt_bf16_f32 (FloatOps.truncf .bf16 bitsLt_bf16_f32 s)))

/-- The dequantised weights of one block of 512 rows: first the low halves of the bytes, then the high halves. -/
def WV (wp : Vec F S512x1024 .i8) (ws : Vec F S512x16 .f32) : Vec F S512x2048 .bf16 := fun y =>
  wElt (if (y 1).val < 1024 then 28#32 else 24#32) (wp (ix2 (y 0) (Fin.ofNat 1024 (y 1).val)))
    (ws (ix2 (y 0) (Fin.ofNat 16 ((y 1).val % 1024 / 64))))

/-- One block of the product: dequantised activations against 512 rows of dequantised weights, rounded. -/
def YV (x : Vec F S768x2048 .bf16) (wp : Vec F S512x1024 .i8) (ws : Vec F S512x16 .f32) : Vec F S768x512 .bf16 :=
  k0_pay243 (AV x) (WV wp ws)

end Cert.KernelIdeal.Quant

end
-- ==== Proof.Blocks.lean ====
/-
  The whole arrays of Quant.lean read at a block: where a coordinate is `128 k + r`, the array there is what the block
  computes at `r`. And a load of a block from a buffer that holds the whole activations is that block.
-/
module

public import proofs.«01_k».proof.Proof.Quant
public import Idealize.ShloMosaic.Lib.WholeRead
public import Idealize.ShloMosaic.Lib.Pipeline.ValueKit.Tiles

@[expose] public section

noncomputable section

namespace Cert.KernelIdeal.Quant

open Idealize.ShloMosaic Cert.KernelIdeal Cert.KernelIdeal.Gen
open Idealize.ShloMosaic.ValueIdx (ix2 eq_ix2)

variable {F : FTy → Type} [FloatOps F]

/-- The row block of a row `128 k + r`. -/
theorem rowBlk_of (i : Fin 768) (k : Fin 6) (r : Fin 128) (h : i.val = 128 * k.val + r.val) : rowBlk i = k :=
  Fin.ext (by show i.val / 128 = k.val; have := r.isLt; omega)
/-- The row within its block of a row `128 k + r`. -/
theorem rowIn_of (i : Fin 768) (k : Fin 6) (r : Fin 128) (h : i.val = 128 * k.val + r.val) : rowIn i = r :=
  Fin.ext (by show i.val % 128 = r.val; have := r.isLt; omega)

/-- A block's entry. -/
theorem blk_of (x : Vec F S768x2048 .bf16) (i : S768x2048.Idx) (k : Fin 6) (g : Fin 16) (j : S128x128.Idx)
    (h0 : (i 0).val = 128 * k.val + (j 0).val) (h1 : (i 1).val = 128 * g.val + (j 1).val) : blk x k g j = x i := by
  refine congrArg x (funext fun a => ?_)
  match a with
  | ⟨0, _⟩ => exact Fin.ext h0.symm
  | ⟨1, _⟩ => exact Fin.ext h1.symm

/-- The packed codes at block `(k, p)`. -/
theorem CV_of (x : Vec F S768x2048 .bf16) (i : S768x1024.Idx) (k : Fin 6) (p : Fin 8) (g0 g1 : Fin 16) (j : S128x128.Idx)
    (h0 : (i 0).val = 128 * k.val + (j 0).val) (h1 : (i 1).val = 128 * p.val + (j 1).val)
    (hg0 : g0.val = 2 * p.val) (hg1 : g1.val = 2 * p.val + 1) :
    CV x i = gPack (blk x k g0) (blk x k g1) j := by
  have hj : (j 1).val < 128 := (j 1).isLt
  have hpp := p.isLt
  have e0 : rowBlk (i 0) = k := rowBlk_of _ k (j 0) h0
  have e1 : rowIn (i 0) = j 0 := rowIn_of _ k (j 0) h0
  have e2 : Fin.ofNat 16 (2 * ((i 1).val / 128)) = g0 := Fin.ext (by simp only [Fin.val_ofNat]; omega)
  have e3 : Fin.ofNat 16 (2 * ((i 1).val / 128) + 1) = g1 := Fin.ext (by simp only [Fin.val_ofNat]; omega)
  have e4 : Fin.ofNat 128 (i 1).val = j 1 := Fin.ext (by simp only [Fin.val_ofNat]; omega)
  unfold CV
  rw [e0, e1, e2, e3, e4]
  exact congrArg _ (eq_ix2 j).symm

/-- The dequantised activations at block `(k, p)` of the even half. -/
theorem AV_even (x : Vec F S768x2048 .bf16) (i : S768x2048.Idx) (k : Fin 6) (p : Fin 8) (g0 g1 : Fin 16) (j : S128x128.Idx)
    (h0 : (i 0).val = 128 * k.val + (j 0).val) (h1 : (i 1).val = 128 * p.val + (j 1).val)
    (hg0 : g0.val = 2 * p.val) (hg1 : g1.val = 2 * p.val + 1) :
    AV x i = aEven (blk x k g0) (blk x k g1) j := by
  have hj : (j 1).val < 128 := (j 1).isLt
  have hpp := p.isLt
  have e0 : rowBlk (i 0) = k := rowBlk_of _ k (j 0) h0
  have e1 : rowIn (i 0) = j 0 := rowIn_of _ k (j 0) h0
  have e2 : Fin.ofNat 16 (2 * ((i 1).val % 1024 / 128)) = g0 := Fin.ext (by simp only [Fin.val_ofNat]; omega)
  have e3 : Fin.ofNat 16 (2 * ((i 1).val % 1024 / 128) + 1) = g1 := Fin.ext (by simp only [Fin.val_ofNat]; omega)
  have e4 : Fin.ofNat 128 (i 1).val = j 1 := Fin.ext (by simp only [Fin.val_ofNat]; omega)
  have hc : (i 1).val < 1024 := by omega
  unfold AV
  rw [e0, e1, e2, e3, e4, if_pos hc]
  exact congrArg _ (eq_ix2 j).symm

/-- The dequantised activations at block `(k, p)` of the odd half. -/
theorem AV_odd (x : Vec F S768x2048 .bf16) (i : S768x2048.Idx) (k : Fin 6) (p : Fin 8) (g0 g1 : Fin 16) (j : S128x128.Idx)
    (h0 : (i 0).val = 128 * k.val + (j 0).val) (h1 : (i 1).val = 1024 + 128 * p.val + (j 1).val)
    (hg0 : g0.val = 2 * p.val) (hg1 : g1.val = 2 * p.val + 1) :
    AV x i = aOdd (blk x k g0) (blk x k g1) j := by
  have hj : (j 1).val < 128 := (j 1).isLt
  have hpp := p.isLt
  have e0 : rowBlk (i 0) = k := rowBlk_of _ k (j 0) h0
  have e1 : rowIn (i 0) = j 0 := rowIn_of _ k (j 0) h0
  have e2 : Fin.ofNat 16 (2 * ((i 1).val % 1024 / 128)) = g0 := Fin.ext (by simp only [Fin.val_ofNat]; omega)
  have e3 : Fin.ofNat 16 (2 * ((i 1).val % 1024 / 128) + 1) = g1 := Fin.ext (by simp only [Fin.val_ofNat]; omega)
  have e4 : Fin.ofNat 128 (i 1).val = j 1 := Fin.ext (by simp only [Fin.val_ofNat]; omega)
  have hc : ¬ (i 1).val < 1024 := by omega
  unfold AV
  rw [e0, e1, e2, e3, e4, if_neg hc]
  exact congrArg _ (eq_ix2 j).symm

/-- A load of 128 × 128 entries. -/
abbrev ld (arg1 : Memref sig .tc .vmem S768x2048 .bf16) (off : Fin 2 → Nat)
    (inb : ∀ a, off a + S128x128.size a ≤ S768x2048.size a) (X : BufTy.Contents (Elt F) arg1.view.ty) :
    Vec F S128x128 .bf16 :=
  View.readAt (Elt F) arg1.view (Rect.unit (s := S768x2048) off S128x128.size inb).toLoadRect X

/-- A load of block `(k, g)` from a buffer that holds the activations. -/
theorem ld_blk (arg1 : Memref sig .tc .vmem S768x2048 .bf16) (harg1 : arg1.IsWhole) (x : Vec F S768x2048 .bf16)
    (off : Fin 2 → Nat) (k : Fin 6) (g : Fin 16) (h : off = ![128 * k.val, 128 * g.val])
    (inb : ∀ a, off a + S128x128.size a ≤ S768x2048.size a) :
    ld arg1 off inb (harg1.unread x) = blk x k g := by
  subst h
  funext j
  unfold ld
  rw [harg1.readAt_unread]
  exact (blk_of x _ k g j (by rw [Rect.idx_unit_val]; rfl) (by rw [Rect.idx_unit_val]; rfl)).symm

end Cert.KernelIdeal.Quant

end
-- ==== Proof.Lanes.lean ====
/-
  The lane arithmetic of one pair of blocks: which code a lane of the even and of the odd half holds, what a spread column
  reads, and which of sixteen inserted columns a lane of the scales reads.
-/
module

public import proofs.«01_k».proof.Proof.Quant
public import Idealize.ShloMosaic.Lib.Pipeline.Value
public import Idealize.ShloMosaic.Lib.KernelVsHost
public import Idealize.ShloMosaic.Lib.WordCmp

@[expose] public section

noncomputable section

namespace Cert.KernelIdeal.Quant

open Idealize.ShloMosaic Cert.KernelIdeal Cert.KernelIdeal.Gen
open Idealize.ShloMosaic.ValueIdx (ix2 eq_ix2)
open Idealize.ShloMosaic.WordCmp

variable {F : FTy → Type} [FloatOps F]

/-- A select on a decided bit. -/
theorem select_ofBool {α : Type} (p : Prop) [Decidable p] (a b : α) :
    Scalar.select (BitVec.ofBool (decide p)) a b = if p then a else b := by
  by_cases h : p <;> simp [Scalar.select, h]

/-- The lane number at a lane. -/
theorem lane_apply (j : S128x128.Idx) : lane j = BitVec.ofNat 32 (j 1).val := by
  show BitVec.ofNat 32 (0 * 128 + (j 1).val) = _
  rw [Nat.zero_mul, Nat.zero_add]

/-- The lower half, at a lane. -/
theorem low_apply (j : S128x128.Idx) : low j = BitVec.ofBool (decide ((j 1).val < 64)) := by
  have hj : (j 1).val < 128 := (j 1).isLt
  show IntOp.cmpi .slt (lane j) (BitVec.ofNat 32 64) = _
  rw [lane_apply]
  exact cmpi_slt_ofNat (by omega) (by omega)

/-- A select on the lower half. -/
theorem select_low {α : Type} (a b : S128x128.Idx → α) (j : S128x128.Idx) :
    select low a b j = if (j 1).val < 64 then a j else b j := by
  show Scalar.select (low j) (a j) (b j) = _
  rw [low_apply, select_ofBool]

/-- A column spread over the lanes reads its row. -/
theorem col_apply (a : FVec F S128x1 .f32) (j : S128x128.Idx) :
    broadcastTo S128x128 a broadcasts_S128x1_S128x128 j = a (ix2 (j 0) 0) :=
  broadcastTo_apply a _ j _ fun d => by match d with | ⟨0, _⟩ => rfl | ⟨1, _⟩ => rfl

/-- Two columns spread over the two halves. -/
theorem spread_apply (a b : FVec F S128x1 .f32) (j : S128x128.Idx) :
    spread a b j = if (j 1).val < 64 then a (ix2 (j 0) 0) else b (ix2 (j 0) 0) := by
  unfold spread
  rw [select_low, shapeCast_self, shapeCast_self, col_apply, col_apply]

/-- A block read along a lane order that stays within the lanes. -/
theorem along_apply (perm : IVec S128x128 32) (v : FVec F S128x128 .f32) (j : S128x128.Idx) (k : Fin 128)
    (h : perm j = BitVec.ofNat 32 k.val) : along perm v j = v (ix2 (j 0) k) := by
  have hk := k.isLt
  unfold along
  rw [shapeCast_shapeCast]
  have hidx : (select (cmpi .slt perm (broadcast S128x128 0#32)) (addi perm (broadcast S128x128 128#32)) perm) j
      = BitVec.ofNat 32 k.val := by
    show Scalar.select (IntOp.cmpi .slt (perm j) (BitVec.ofNat 32 0)) _ (perm j) = _
    rw [h, cmpi_slt_ofNat (by omega) (by omega), select_ofBool, if_neg (by omega)]
  unfold dynamicGather
  refine congrArg v (funext fun d => ?_)
  match d with
  | ⟨0, _⟩ => rfl
  | ⟨1, _⟩ =>
    refine Fin.ext ?_
    show (_ : BitVec 32).toNat % 128 = k.val
    rw [hidx, BitVec.toNat_ofNat]
    omega

/-- The lane order that brings the even entries down. -/
theorem evenOdd_apply (j : S128x128.Idx) :
    evenOdd j = BitVec.ofNat 32 (if (j 1).val < 64 then 2 * (j 1).val else 2 * (j 1).val - 127) := by
  have hj : (j 1).val < 128 := (j 1).isLt
  unfold evenOdd
  rw [select_low]
  split
  · show 2#32 * lane j = _
    rw [lane_apply]; refine BitVec.eq_of_toNat_eq ?_; simp only [BitVec.toNat_mul, BitVec.toNat_ofNat]; omega
  · show 2#32 * lane j - 127#32 = _
    rw [lane_apply]; refine BitVec.eq_of_toNat_eq ?_
    simp only [BitVec.toNat_mul, BitVec.toNat_sub, BitVec.toNat_ofNat]; omega

/-- The lane order that brings the odd entries down. -/
theorem oddEven_apply (j : S128x128.Idx) :
    oddEven j = BitVec.ofNat 32 (if (j 1).val < 64 then 2 * (j 1).val + 1 else 2 * (j 1).val - 128) := by
  have hj : (j 1).val < 128 := (j 1).isLt
  unfold oddEven
  rw [select_low]
  split
  · show 2#32 * lane j + 1#32 = _
    rw [lane_apply]; refine BitVec.eq_of_toNat_eq ?_
    simp only [BitVec.toNat_mul, BitVec.toNat_add, BitVec.toNat_ofNat]; omega
  · show 2#32 * lane j - 128#32 = _
    rw [lane_apply]; refine BitVec.eq_of_toNat_eq ?_
    simp only [BitVec.toNat_mul, BitVec.toNat_sub, BitVec.toNat_ofNat]; omega

/-- The even-numbered codes: lane `l` holds entry `2 l` of the two blocks side by side. -/
theorem gEven_apply (X0 X1 : Vec F S128x128 .bf16) (j : S128x128.Idx) :
    gEven X0 X1 j = if (j 1).val < 64 then gcode X0 (ix2 (j 0) (Fin.ofNat 128 (2 * (j 1).val)))
      else gcode X1 (ix2 (j 0) (Fin.ofNat 128 (2 * (j 1).val))) := by
  have hj : (j 1).val < 128 := (j 1).isLt
  unfold gEven
  rw [select_low]
  split
  · next h =>
    refine along_apply _ _ j _ ?_
    rw [evenOdd_apply, if_pos h, Fin.val_ofNat, Nat.mod_eq_of_lt (by omega)]
  · next h =>
    refine along_apply _ _ j _ ?_
    rw [oddEven_apply, if_neg h, Fin.val_ofNat]
    congr 1; omega

/-- The odd-numbered codes: lane `l` holds entry `2 l + 1` of the two blocks side by side. -/
theorem gOdd_apply (X0 X1 : Vec F S128x128 .bf16) (j : S128x128.Idx) :
    gOdd X0 X1 j = if (j 1).val < 64 then gcode X0 (ix2 (j 0) (Fin.ofNat 128 (2 * (j 1).val + 1)))
      else gcode X1 (ix2 (j 0) (Fin.ofNat 128 (2 * (j 1).val + 1))) := by
  have hj : (j 1).val < 128 := (j 1).isLt
  have hrot : gOdd X0 X1 j = select low (along oddEven (gcode X1)) (along evenOdd (gcode X0))
      (ix2 (j 0) (Fin.ofNat 128 ((j 1).val + 64))) := by
    unfold gOdd
    refine dynamicRotate_apply _ _ _ _ _ _ fun d => ?_
    match d with
    | ⟨0, _⟩ => rfl
    | ⟨1, _⟩ =>
      show ((j 1).val + 64) % 128 = ((j 1).val + 128 - 64 % 128) % 128
      omega
  rw [hrot, select_low]
  show (if ((j 1).val + 64) % 128 < 64 then _ else _) = _
  by_cases h : (j 1).val < 64
  · rw [if_pos h, if_neg (by omega)]
    refine along_apply _ _ _ _ ?_
    rw [evenOdd_apply]
    show BitVec.ofNat 32 (if ((j 1).val + 64) % 128 < 64 then _ else 2 * (((j 1).val + 64) % 128) - 127) = _
    rw [if_neg (by omega), Fin.val_ofNat]
    congr 1; omega
  · rw [if_neg h, if_pos (by omega)]
    refine along_apply _ _ _ _ ?_
    rw [oddEven_apply]
    show BitVec.ofNat 32 (if ((j 1).val + 64) % 128 < 64 then 2 * (((j 1).val + 64) % 128) + 1 else _) = _
    rw [if_pos (by omega), Fin.val_ofNat]
    congr 1; omega

/-- One inserted column. -/
theorem ins_apply (n : Nat) (hn : n < 16) (s : FVec F S128x1 .f32) (prev : FVec F S128x16 .f32) (j : S128x16.Idx) :
    ins (BitVec.ofNat 32 n) s prev j = if (j 1).val = n then s (ix2 (j 0) 0) else prev j := by
  have hj : (j 1).val < 16 := (j 1).isLt
  unfold ins
  rw [shapeCast_self]
  show Scalar.select (IntOp.cmpi .eq (BitVec.ofNat 32 (0 * 16 + (j 1).val)) (BitVec.ofNat 32 n)) _ (prev j) = _
  rw [Nat.zero_mul, Nat.zero_add, cmpi_eq_ofNat (by omega) (by omega), select_ofBool]
  rw [broadcastTo_apply s _ j (ix2 (j 0) 0) fun d => by match d with | ⟨0, _⟩ => rfl | ⟨1, _⟩ => rfl]

/-- Sixteen inserted columns: a lane reads its own. -/
theorem cols_apply (f : Fin 16 → FVec F S128x1 .f32) (j : S128x16.Idx) :
    cols (f 0) (f 1) (f 2) (f 3) (f 4) (f 5) (f 6) (f 7) (f 8) (f 9) (f 10) (f 11) (f 12) (f 13) (f 14) (f 15) j
      = f (j 1) (ix2 (j 0) 0) := by
  unfold cols
  rw [ins_apply 15 (by omega), ins_apply 14 (by omega), ins_apply 13 (by omega), ins_apply 12 (by omega),
    ins_apply 11 (by omega), ins_apply 10 (by omega), ins_apply 9 (by omega), ins_apply 8 (by omega),
    ins_apply 7 (by omega), ins_apply 6 (by omega), ins_apply 5 (by omega), ins_apply 4 (by omega),
    ins_apply 3 (by omega), ins_apply 2 (by omega), ins_apply 1 (by omega), ins_apply 0 (by omega)]
  generalize (ix2 (j 0) 0 : S128x1.Idx) = r
  have key : ∀ (g : Fin 16) (z : F .f32), (if g.val = 15 then f 15 r else if g.val = 14 then f 14 r else if g.val = 13 then f 13 r
      else if g.val = 12 then f 12 r else if g.val = 11 then f 11 r else if g.val = 10 then f 10 r else if g.val = 9 then f 9 r
      else if g.val = 8 then f 8 r else if g.val = 7 then f 7 r else if g.val = 6 then f 6 r else if g.val = 5 then f 5 r
      else if g.val = 4 then f 4 r else if g.val = 3 then f 3 r else if g.val = 2 then f 2 r else if g.val = 1 then f 1 r
      else if g.val = 0 then f 0 r else z) = f g r := by
    intro g z; fin_cases g <;> rfl
  exact key (j 1) _

end Cert.KernelIdeal.Quant

end
-- ==== Proof.Pieces.lean ====
/-
  One stored piece of one trip, against the whole arrays: what is computed from two loaded blocks is the whole array at the
  piece's place.
-/
module

public import proofs.«01_k».proof.Proof.Blocks
public import proofs.«01_k».proof.Proof.Lanes

@[expose] public section

noncomputable section

namespace Cert.KernelIdeal.Quant

open Idealize.ShloMosaic Cert.KernelIdeal Cert.KernelIdeal.Gen
open Idealize.ShloMosaic.ValueIdx (ix2 eq_ix2)

variable {F : FTy → Type} [FloatOps F]

/-- The row block of a trip. -/
def trip (k : Fin k0_t1_loop.trips) : Fin 6 := ⟨k.val, Nat.lt_of_lt_of_le k.isLt (by decide)⟩

section
variable (arg1 : Memref sig .tc .vmem S768x2048 .bf16) (harg1 : arg1.IsWhole) (x : Vec F S768x2048 .bf16)
  (k : Fin k0_t1_loop.trips) (p : Fin 8) (g0 g1 : Fin 16) (hg0 : g0.val = 2 * p.val) (hg1 : g1.val = 2 * p.val + 1)
  (off off0 off1 : Fin 2 → Nat)
  (h0 : off0 = ![128 * (trip k).val, 128 * g0.val]) (h1 : off1 = ![128 * (trip k).val, 128 * g1.val])
  (inb0 : ∀ a, off0 a + S128x128.size a ≤ S768x2048.size a) (inb1 : ∀ a, off1 a + S128x128.size a ≤ S768x2048.size a)
include hg0 hg1 h0 h1

/-- A piece of packed codes. -/
theorem piece_codes (h : off = ![128 * (trip k).val, 128 * p.val])
    (inb : ∀ a, off a + S128x128.size a ≤ S768x1024.size a) (y : S128x128.Idx) :
    gPack (ld arg1 off0 inb0 (harg1.unread x)) (ld arg1 off1 inb1 (harg1.unread x)) y
      = CV x ((Rect.unit (s := S768x1024) off S128x128.size inb).emb y) := by
  rw [ld_blk arg1 harg1 x off0 (trip k) g0 h0, ld_blk arg1 harg1 x off1 (trip k) g1 h1]
  subst h
  exact (CV_of x _ (trip k) p g0 g1 y (by rw [Rect.emb_apply]; show _ + 1 * _ = _; rw [Nat.one_mul]; rfl)
    (by rw [Rect.emb_apply]; show _ + 1 * _ = _; rw [Nat.one_mul]; rfl) hg0 hg1).symm

/-- A piece of dequantised even-numbered activations. -/
theorem piece_even (h : off = ![128 * (trip k).val, 128 * p.val])
    (inb : ∀ a, off a + S128x128.size a ≤ S768x2048.size a) (y : S128x128.Idx) :
    aEven (ld arg1 off0 inb0 (harg1.unread x)) (ld arg1 off1 inb1 (harg1.unread x)) y
      = AV x ((Rect.unit (s := S768x2048) off S128x128.size inb).emb y) := by
  rw [ld_blk arg1 harg1 x off0 (trip k) g0 h0, ld_blk arg1 harg1 x off1 (trip k) g1 h1]
  subst h
  exact (AV_even x _ (trip k) p g0 g1 y (by rw [Rect.emb_apply]; show _ + 1 * _ = _; rw [Nat.one_mul]; rfl)
    (by rw [Rect.emb_apply]; show _ + 1 * _ = _; rw [Nat.one_mul]; rfl) hg0 hg1).symm

/-- A piece of dequantised odd-numbered activations. -/
theorem piece_odd (h : off = ![128 * (trip k).val, 1024 + 128 * p.val])
    (inb : ∀ a, off a + S128x128.size a ≤ S768x2048.size a) (y : S128x128.Idx) :
    aOdd (ld arg1 off0 inb0 (harg1.unread x)) (ld arg1 off1 inb1 (harg1.unread x)) y
      = AV x ((Rect.unit (s := S768x2048) off S128x128.size inb).emb y) := by
  rw [ld_blk arg1 harg1 x off0 (trip k) g0 h0, ld_blk arg1 harg1 x off1 (trip k) g1 h1]
  subst h
  exact (AV_odd x _ (trip k) p g0 g1 y (by rw [Rect.emb_apply]; show _ + 1 * _ = _; rw [Nat.one_mul]; rfl)
    (by rw [Rect.emb_apply]; show _ + 1 * _ = _; rw [Nat.one_mul]; rfl) hg0 hg1).symm

end

/-- The scales of 128 rows. -/
theorem piece_scales (x : Vec F S768x2048 .bf16) (k : Fin 6) (off : Fin 2 → Nat) (h : off = ![128 * k.val, 0])
    (inb : ∀ a, off a + S128x16.size a ≤ S768x16.size a) (y : S128x16.Idx) :
    cols (gs (blk x k 0)) (gs (blk x k 1)) (gs (blk x k 2)) (gs (blk x k 3)) (gs (blk x k 4)) (gs (blk x k 5))
      (gs (blk x k 6)) (gs (blk x k 7)) (gs (blk x k 8)) (gs (blk x k 9)) (gs (blk x k 10)) (gs (blk x k 11))
      (gs (blk x k 12)) (gs (blk x k 13)) (gs (blk x k 14)) (gs (blk x k 15)) y
      = SV x ((Rect.unit (s := S768x16) off S128x16.size inb).emb y) := by
  rw [cols_apply (fun g => gs (blk x k g))]
  subst h
  have hr : (((Rect.unit (s := S768x16) ![128 * k.val, 0] S128x16.size inb).emb y) 0).val = 128 * k.val + (y 0).val := by
    rw [Rect.emb_apply]; show _ + 1 * _ = _; rw [Nat.one_mul]; rfl
  have hc : ((Rect.unit (s := S768x16) ![128 * k.val, 0] S128x16.size inb).emb y) 1 = y 1 :=
    Fin.ext (by rw [Rect.emb_apply]; show 0 + 1 * _ = _; omega)
  unfold SV
  rw [rowBlk_of _ k (y 0) hr, rowIn_of _ k (y 0) hr, hc]

/-- The zero points of 128 rows. -/
theorem piece_zeros (x : Vec F S768x2048 .bf16) (k : Fin 6) (off : Fin 2 → Nat) (h : off = ![128 * k.val, 0])
    (inb : ∀ a, off a + S128x16.size a ≤ S768x16.size a) (y : S128x16.Idx) :
    zbytes (cols (gz (blk x k 0)) (gz (blk x k 1)) (gz (blk x k 2)) (gz (blk x k 3)) (gz (blk x k 4)) (gz (blk x k 5))
      (gz (blk x k 6)) (gz (blk x k 7)) (gz (blk x k 8)) (gz (blk x k 9)) (gz (blk x k 10)) (gz (blk x k 11))
      (gz (blk x k 12)) (gz (blk x k 13)) (gz (blk x k 14)) (gz (blk x k 15))) y
      = ZV x ((Rect.unit (s := S768x16) off S128x16.size inb).emb y) := by
  unfold zbytes
  show (FloatOps.fptosi 32 (cols _ _ _ _ _ _ _ _ _ _ _ _ _ _ _ _ y)).setWidth 8 = _
  rw [cols_apply (fun g => gz (blk x k g))]
  subst h
  have hr : (((Rect.unit (s := S768x16) ![128 * k.val, 0] S128x16.size inb).emb y) 0).val = 128 * k.val + (y 0).val := by
    rw [Rect.emb_apply]; show _ + 1 * _ = _; rw [Nat.one_mul]; rfl
  have hc : ((Rect.unit (s := S768x16) ![128 * k.val, 0] S128x16.size inb).emb y) 1 = y 1 :=
    Fin.ext (by rw [Rect.emb_apply]; show 0 + 1 * _ = _; omega)
  unfold ZV
  rw [rowBlk_of _ k (y 0) hr, rowIn_of _ k (y 0) hr, hc]

end Cert.KernelIdeal.Quant

end
-- ==== Proof.Trip.lean ====
/-
  One trip of the first grid point's loop over row blocks: every piece it stores is the whole array of Quant.lean at the
  piece's place, and its pieces cover the rows of its block.
-/
module

public import proofs.«01_k».proof.Proof.Pieces
public import proofs.«01_k».proof.Proof.Gen.KernelIdeal.Loops
public import Idealize.ShloMosaic.Lib.Pipeline.ReadBack

@[expose] public section

set_option maxRecDepth 16384

noncomputable section

namespace Cert.KernelIdeal.Quant

open Idealize.ShloMosaic Cert.KernelIdeal Cert.KernelIdeal.Gen

variable {F : FTy → Type} [FloatOps F]

/-! ## Where a trip's pieces lie -/

theorem off1 : ∀ k : Fin k0_t1_loop.trips, k0_off1 k = ![128 * (trip k).val, 0] := by decide +kernel
theorem off2 : ∀ k : Fin k0_t1_loop.trips, k0_off2 k = ![128 * (trip k).val, 128] := by decide +kernel
theorem off3 : ∀ k : Fin k0_t1_loop.trips, k0_off3 k = ![128 * (trip k).val, 0] := by decide +kernel
theorem off4 : ∀ k : Fin k0_t1_loop.trips, k0_off4 k = ![128 * (trip k).val, 1024] := by decide +kernel
theorem off5 : ∀ k : Fin k0_t1_loop.trips, k0_off5 k = ![128 * (trip k).val, 256] := by decide +kernel
theorem off6 : ∀ k : Fin k0_t1_loop.trips, k0_off6 k = ![128 * (trip k).val, 384] := by decide +kernel
theorem off7 : ∀ k : Fin k0_t1_loop.trips, k0_off7 k = ![128 * (trip k).val, 128] := by decide +kernel
theorem off8 : ∀ k : Fin k0_t1_loop.trips, k0_off8 k = ![128 * (trip k).val, 1152] := by decide +kernel
theorem off9 : ∀ k : Fin k0_t1_loop.trips, k0_off9 k = ![128 * (trip k).val, 512] := by decide +kernel
theorem off10 : ∀ k : Fin k0_t1_loop.trips, k0_off10 k = ![128 * (trip k).val, 640] := by decide +kernel
theorem off11 : ∀ k : Fin k0_t1_loop.trips, k0_off11 k = ![128 * (trip k).val, 256] := by decide +kernel
theorem off12 : ∀ k : Fin k0_t1_loop.trips, k0_off12 k = ![128 * (trip k).val, 1280] := by decide +kernel
theorem off13 : ∀ k : Fin k0_t1_loop.trips, k0_off13 k = ![128 * (trip k).val, 768] := by decide +kernel
theorem off14 : ∀ k : Fin k0_t1_loop.trips, k0_off14 k = ![128 * (trip k).val, 896] := by decide +kernel
theorem off15 : ∀ k : Fin k0_t1_loop.trips, k0_off15 k = ![128 * (trip k).val, 384] := by decide +kernel
theorem off16 : ∀ k : Fin k0_t1_loop.trips, k0_off16 k = ![128 * (trip k).val, 1408] := by decide +kernel
theorem off17 : ∀ k : Fin k0_t1_loop.trips, k0_off17 k = ![128 * (trip k).val, 512] := by decide +kernel
theorem off18 : ∀ k : Fin k0_t1_loop.trips, k0_off18 k = ![128 * (trip k).val, 1536] := by decide +kernel
theorem off19 : ∀ k : Fin k0_t1_loop.trips, k0_off19 k = ![128 * (trip k).val, 640] := by decide +kernel
theorem off20 : ∀ k : Fin k0_t1_loop.trips, k0_off20 k = ![128 * (trip k).val, 1664] := by decide +kernel
theorem off21 : ∀ k : Fin k0_t1_loop.trips, k0_off21 k = ![128 * (trip k).val, 768] := by decide +kernel
theorem off22 : ∀ k : Fin k0_t1_loop.trips, k0_off22 k = ![128 * (trip k).val, 1792] := by decide +kernel
theorem off23 : ∀ k : Fin k0_t1_loop.trips, k0_off23 k = ![128 * (trip k).val, 1920] := by decide +kernel
theorem off24 : ∀ k : Fin k0_t1_loop.trips, k0_off24 k = ![128 * (trip k).val, 896] := by decide +kernel
theorem off25 : ∀ k : Fin k0_t1_loop.trips, k0_off25 k = ![128 * (trip k).val, 0] := by decide +kernel

section
variable (𝒱 : Variants) (c : Dev nD) (bd : Option 𝒱.V) (i : grid0.Coords)
  (arg1 : Memref sig .tc .vmem S768x2048 .bf16) (harg1 : arg1.IsWhole) (arg2 : Memref sig .tc .vmem S512x1024 .i8) (harg2 : arg2.IsWhole) (arg3 : Memref sig .tc .vmem S512x16 .f32) (harg3 : arg3.IsWhole)
  (arg4 : Memref sig .tc .vmem S768x512 .bf16) (harg4 : arg4.IsWhole) (arg5 : Memref sig .tc .vmem S768x1024 .i8) (harg5 : arg5.IsWhole) (arg6 : Memref sig .tc .vmem S768x16 .f32) (harg6 : arg6.IsWhole)
  (arg7 : Memref sig .tc .vmem S768x16 .i8) (harg7 : arg7.IsWhole) (arg8 : Memref sig .tc .vmem S768x2048 .bf16) (harg8 : arg8.IsWhole) (arg9 : Memref sig .tc .vmem S512x2048 .bf16) (harg9 : arg9.IsWhole)
  (k0_h1 : k0_cond1 i = 1#1) (x : Vec F S768x2048 .bf16)
  (k : Fin k0_t1_loop.trips)

set_option maxHeartbeats 1000000 in
/-- The packed codes a trip stores. -/
theorem trip_codes : View.PiecesOf (CV x) (tripL_k0_t1 (F := F) 𝒱 c bd i arg1 harg1 arg2 harg2 arg3 harg3 arg4 harg4 arg5 harg5 arg6 harg6 arg7 harg7 arg8 harg8 arg9 harg9 k0_h1 (harg1.unread x) k).1 := by
  unfold tripL_k0_t1 trip_k0_t1
  exact ⟨fun y => piece_codes arg1 harg1 x k 7 14 15 rfl rfl (k0_off24 k) (k0_off22 k) (k0_off23 k) (off22 k) (off23 k)
      (k0_off22_inb i k k0_h1) (k0_off23_inb i k k0_h1) (off24 k) (k0_off24_inb i k k0_h1) y,
    fun y => piece_codes arg1 harg1 x k 6 12 13 rfl rfl (k0_off21 k) (k0_off18 k) (k0_off20 k) (off18 k) (off20 k)
      (k0_off18_inb i k k0_h1) (k0_off20_inb i k k0_h1) (off21 k) (k0_off21_inb i k k0_h1) y,
    fun y => piece_codes arg1 harg1 x k 5 10 11 rfl rfl (k0_off19 k) (k0_off12 k) (k0_off16 k) (off12 k) (off16 k)
      (k0_off12_inb i k k0_h1) (k0_off16_inb i k k0_h1) (off19 k) (k0_off19_inb i k k0_h1) y,
    fun y => piece_codes arg1 harg1 x k 4 8 9 rfl rfl (k0_off17 k) (k0_off4 k) (k0_off8 k) (off4 k) (off8 k)
      (k0_off4_inb i k k0_h1) (k0_off8_inb i k k0_h1) (off17 k) (k0_off17_inb i k k0_h1) y,
    fun y => piece_codes arg1 harg1 x k 3 6 7 rfl rfl (k0_off15 k) (k0_off13 k) (k0_off14 k) (off13 k) (off14 k)
      (k0_off13_inb i k k0_h1) (k0_off14_inb i k k0_h1) (off15 k) (k0_off15_inb i k k0_h1) y,
    fun y => piece_codes arg1 harg1 x k 2 4 5 rfl rfl (k0_off11 k) (k0_off9 k) (k0_off10 k) (off9 k) (off10 k)
      (k0_off9_inb i k k0_h1) (k0_off10_inb i k k0_h1) (off11 k) (k0_off11_inb i k k0_h1) y,
    fun y => piece_codes arg1 harg1 x k 1 2 3 rfl rfl (k0_off7 k) (k0_off5 k) (k0_off6 k) (off5 k) (off6 k)
      (k0_off5_inb i k k0_h1) (k0_off6_inb i k k0_h1) (off7 k) (k0_off7_inb i k k0_h1) y,
    fun y => piece_codes arg1 harg1 x k 0 0 1 rfl rfl (k0_off3 k) (k0_off1 k) (k0_off2 k) (off1 k) (off2 k)
      (k0_off1_inb i k k0_h1) (k0_off2_inb i k k0_h1) (off3 k) (k0_off3_inb i k k0_h1) y, trivial⟩

set_option maxHeartbeats 2000000 in
/-- The dequantised activations a trip stores. -/
theorem trip_acts : View.PiecesOf (AV x) (tripL_k0_t1 (F := F) 𝒱 c bd i arg1 harg1 arg2 harg2 arg3 harg3 arg4 harg4 arg5 harg5 arg6 harg6 arg7 harg7 arg8 harg8 arg9 harg9 k0_h1 (harg1.unread x) k).2.2.2 := by
  unfold tripL_k0_t1 trip_k0_t1
  exact ⟨fun y => piece_odd arg1 harg1 x k 7 14 15 rfl rfl (k0_off23 k) (k0_off22 k) (k0_off23 k) (off22 k) (off23 k)
      (k0_off22_inb i k k0_h1) (k0_off23_inb i k k0_h1) (off23 k) (k0_off23_inb i k k0_h1) y,
    fun y => piece_even arg1 harg1 x k 7 14 15 rfl rfl (k0_off14 k) (k0_off22 k) (k0_off23 k) (off22 k) (off23 k)
      (k0_off22_inb i k k0_h1) (k0_off23_inb i k k0_h1) (off14 k) (k0_off14_inb i k k0_h1) y,
    fun y => piece_odd arg1 harg1 x k 6 12 13 rfl rfl (k0_off22 k) (k0_off18 k) (k0_off20 k) (off18 k) (off20 k)
      (k0_off18_inb i k k0_h1) (k0_off20_inb i k k0_h1) (off22 k) (k0_off22_inb i k k0_h1) y,
    fun y => piece_even arg1 harg1 x k 6 12 13 rfl rfl (k0_off13 k) (k0_off18 k) (k0_off20 k) (off18 k) (off20 k)
      (k0_off18_inb i k k0_h1) (k0_off20_inb i k k0_h1) (off13 k) (k0_off13_inb i k k0_h1) y,
    fun y => piece_odd arg1 harg1 x k 5 10 11 rfl rfl (k0_off20 k) (k0_off12 k) (k0_off16 k) (off12 k) (off16 k)
      (k0_off12_inb i k k0_h1) (k0_off16_inb i k k0_h1) (off20 k) (k0_off20_inb i k k0_h1) y,
    fun y => piece_even arg1 harg1 x k 5 10 11 rfl rfl (k0_off10 k) (k0_off12 k) (k0_off16 k) (off12 k) (off16 k)
      (k0_off12_inb i k k0_h1) (k0_off16_inb i k k0_h1) (off10 k) (k0_off10_inb i k k0_h1) y,
    fun y => piece_odd arg1 harg1 x k 4 8 9 rfl rfl (k0_off18 k) (k0_off4 k) (k0_off8 k) (off4 k) (off8 k)
      (k0_off4_inb i k k0_h1) (k0_off8_inb i k k0_h1) (off18 k) (k0_off18_inb i k k0_h1) y,
    fun y => piece_even arg1 harg1 x k 4 8 9 rfl rfl (k0_off9 k) (k0_off4 k) (k0_off8 k) (off4 k) (off8 k)
      (k0_off4_inb i k k0_h1) (k0_off8_inb i k k0_h1) (off9 k) (k0_off9_inb i k k0_h1) y,
    fun y => piece_odd arg1 harg1 x k 3 6 7 rfl rfl (k0_off16 k) (k0_off13 k) (k0_off14 k) (off13 k) (off14 k)
      (k0_off13_inb i k k0_h1) (k0_off14_inb i k k0_h1) (off16 k) (k0_off16_inb i k k0_h1) y,
    fun y => piece_even arg1 harg1 x k 3 6 7 rfl rfl (k0_off6 k) (k0_off13 k) (k0_off14 k) (off13 k) (off14 k)
      (k0_off13_inb i k k0_h1) (k0_off14_inb i k k0_h1) (off6 k) (k0_off6_inb i k k0_h1) y,
    fun y => piece_odd arg1 harg1 x k 2 4 5 rfl rfl (k0_off12 k) (k0_off9 k) (k0_off10 k) (off9 k) (off10 k)
      (k0_off9_inb i k k0_h1) (k0_off10_inb i k k0_h1) (off12 k) (k0_off12_inb i k k0_h1) y,
    fun y => piece_even arg1 harg1 x k 2 4 5 rfl rfl (k0_off5 k) (k0_off9 k) (k0_off10 k) (off9 k) (off10 k)
      (k0_off9_inb i k k0_h1) (k0_off10_inb i k k0_h1) (off5 k) (k0_off5_inb i k k0_h1) y,
    fun y => piece_odd arg1 harg1 x k 1 2 3 rfl rfl (k0_off8 k) (k0_off5 k) (k0_off6 k) (off5 k) (off6 k)
      (k0_off5_inb i k k0_h1) (k0_off6_inb i k k0_h1) (off8 k) (k0_off8_inb i k k0_h1) y,
    fun y => piece_even arg1 harg1 x k 1 2 3 rfl rfl (k0_off2 k) (k0_off5 k) (k0_off6 k) (off5 k) (off6 k)
      (k0_off5_inb i k k0_h1) (k0_off6_inb i k k0_h1) (off2 k) (k0_off2_inb i k k0_h1) y,
    fun y => piece_odd arg1 harg1 x k 0 0 1 rfl rfl (k0_off4 k) (k0_off1 k) (k0_off2 k) (off1 k) (off2 k)
      (k0_off1_inb i k k0_h1) (k0_off2_inb i k k0_h1) (off4 k) (k0_off4_inb i k k0_h1) y,
    fun y => piece_even arg1 harg1 x k 0 0 1 rfl rfl (k0_off1 k) (k0_off1 k) (k0_off2 k) (off1 k) (off2 k)
      (k0_off1_inb i k k0_h1) (k0_off2_inb i k k0_h1) (off1 k) (k0_off1_inb i k k0_h1) y, trivial⟩

/-- The sixteen loaded blocks of a trip. -/
theorem loads_scales (f : Vec F S128x128 .bf16 → FVec F S128x1 .f32) :
    cols (f (ld arg1 (k0_off1 k) (k0_off1_inb i k k0_h1) (harg1.unread x))) (f (ld arg1 (k0_off2 k) (k0_off2_inb i k k0_h1) (harg1.unread x))) (f (ld arg1 (k0_off5 k) (k0_off5_inb i k k0_h1) (harg1.unread x))) (f (ld arg1 (k0_off6 k) (k0_off6_inb i k k0_h1) (harg1.unread x))) (f (ld arg1 (k0_off9 k) (k0_off9_inb i k k0_h1) (harg1.unread x))) (f (ld arg1 (k0_off10 k) (k0_off10_inb i k k0_h1) (harg1.unread x))) (f (ld arg1 (k0_off13 k) (k0_off13_inb i k k0_h1) (harg1.unread x))) (f (ld arg1 (k0_off14 k) (k0_off14_inb i k k0_h1) (harg1.unread x))) (f (ld arg1 (k0_off4 k) (k0_off4_inb i k k0_h1) (harg1.unread x))) (f (ld arg1 (k0_off8 k) (k0_off8_inb i k k0_h1) (harg1.unread x))) (f (ld arg1 (k0_off12 k) (k0_off12_inb i k k0_h1) (harg1.unread x))) (f (ld arg1 (k0_off16 k) (k0_off16_inb i k k0_h1) (harg1.unread x))) (f (ld arg1 (k0_off18 k) (k0_off18_inb i k k0_h1) (harg1.unread x))) (f (ld arg1 (k0_off20 k) (k0_off20_inb i k k0_h1) (harg1.unread x))) (f (ld arg1 (k0_off22 k) (k0_off22_inb i k k0_h1) (harg1.unread x))) (f (ld arg1 (k0_off23 k) (k0_off23_inb i k k0_h1) (harg1.unread x)))
     = cols (f (blk x (trip k) 0)) (f (blk x (trip k) 1)) (f (blk x (trip k) 2)) (f (blk x (trip k) 3)) (f (blk x (trip k) 4)) (f (blk x (trip k) 5)) (f (blk x (trip k) 6)) (f (blk x (trip k) 7)) (f (blk x (trip k) 8)) (f (blk x (trip k) 9)) (f (blk x (trip k) 10)) (f (blk x (trip k) 11)) (f (blk x (trip k) 12)) (f (blk x (trip k) 13)) (f (blk x (trip k) 14)) (f (blk x (trip k) 15)) := by
  rw [ld_blk arg1 harg1 x _ (trip k) 0 (off1 k), ld_blk arg1 harg1 x _ (trip k) 1 (off2 k), ld_blk arg1 harg1 x _ (trip k) 2 (off5 k), ld_blk arg1 harg1 x _ (trip k) 3 (off6 k), ld_blk arg1 harg1 x _ (trip k) 4 (off9 k), ld_blk arg1 harg1 x _ (trip k) 5 (off10 k), ld_blk arg1 harg1 x _ (trip k) 6 (off13 k), ld_blk arg1 harg1 x _ (trip k) 7 (off14 k), ld_blk arg1 harg1 x _ (trip k) 8 (off4 k), ld_blk arg1 harg1 x _ (trip k) 9 (off8 k), ld_blk arg1 harg1 x _ (trip k) 10 (off12 k), ld_blk arg1 harg1 x _ (trip k) 11 (off16 k), ld_blk arg1 harg1 x _ (trip k) 12 (off18 k), ld_blk arg1 harg1 x _ (trip k) 13 (off20 k), ld_blk arg1 harg1 x _ (trip k) 14 (off22 k), ld_blk arg1 harg1 x _ (trip k) 15 (off23 k)]

set_option maxHeartbeats 2000000 in
/-- The scales a trip stores. -/
theorem trip_scales : View.PiecesOf (SV x) (tripL_k0_t1 (F := F) 𝒱 c bd i arg1 harg1 arg2 harg2 arg3 harg3 arg4 harg4 arg5 harg5 arg6 harg6 arg7 harg7 arg8 harg8 arg9 harg9 k0_h1 (harg1.unread x) k).2.1 := by
  unfold tripL_k0_t1 trip_k0_t1
  exact ⟨fun y => (congrFun (loads_scales i arg1 harg1 k0_h1 x k gs) y).trans
    (piece_scales x (trip k) (k0_off25 k) (off25 k) (k0_off25_inb i k k0_h1) y), trivial⟩

set_option maxHeartbeats 2000000 in
/-- The zero points a trip stores. -/
theorem trip_zeros : View.PiecesOf (ZV x) (tripL_k0_t1 (F := F) 𝒱 c bd i arg1 harg1 arg2 harg2 arg3 harg3 arg4 harg4 arg5 harg5 arg6 harg6 arg7 harg7 arg8 harg8 arg9 harg9 k0_h1 (harg1.unread x) k).2.2.1 := by
  unfold tripL_k0_t1 trip_k0_t1
  exact ⟨fun y => (congrFun (congrArg zbytes (loads_scales i arg1 harg1 k0_h1 x k gz)) y).trans
    (piece_zeros x (trip k) (k0_off25 k) (off25 k) (k0_off25_inb i k k0_h1) y), trivial⟩

end

end Cert.KernelIdeal.Quant

end
-- ==== Proof.Loop.lean ====
/-
  The first grid point's loop over row blocks, all trips together: the four buffers it writes end holding the whole arrays of
  Quant.lean, whatever they held before.
-/
module

public import proofs.«01_k».proof.Proof.Trip

@[expose] public section

set_option maxRecDepth 16384

noncomputable section

namespace Cert.KernelIdeal.Quant

open Idealize.ShloMosaic Cert.KernelIdeal Cert.KernelIdeal.Gen

variable {F : FTy → Type} [FloatOps F]

/-- Two lists of blocks of one array, one after the other. -/
theorem piecesOf_append {Val : EltTy → Type} {s : Shape} {e : EltTy} (G : s.Idx → Val e) :
    ∀ (L L' : List (View.Piece Val s e)), View.PiecesOf G L → View.PiecesOf G L' → View.PiecesOf G (L ++ L')
  | [], _, _, h' => h'
  | _ :: L, L', h, h' => ⟨h.1, piecesOf_append G L L' h.2 h'⟩

/-- An index lies in a rectangle when each coordinate does. -/
theorem mem_rect {n0 n1 : Nat} {sz off : Fin 2 → Nat} {r c : Nat} (h : off = ![r, c])
    {inb : ∀ a, off a + sz a ≤ (⟨2, ![n0, n1]⟩ : Shape).size a} (y : (⟨2, ![n0, n1]⟩ : Shape).Idx)
    (h0 : r ≤ (y 0).val ∧ (y 0).val < r + sz 0) (h1 : c ≤ (y 1).val ∧ (y 1).val < c + sz 1) :
    y ∈ (Rect.unit (s := ⟨2, ![n0, n1]⟩) off sz inb).set := by
  subst h
  exact Rect.mem_set_unit.mpr fun a => match a with | ⟨0, _⟩ => h0 | ⟨1, _⟩ => h1

section
variable (𝒱 : Variants) (c : Dev nD) (bd : Option 𝒱.V) (i : grid0.Coords)
  (arg1 : Memref sig .tc .vmem S768x2048 .bf16) (harg1 : arg1.IsWhole) (arg2 : Memref sig .tc .vmem S512x1024 .i8) (harg2 : arg2.IsWhole) (arg3 : Memref sig .tc .vmem S512x16 .f32) (harg3 : arg3.IsWhole)
  (arg4 : Memref sig .tc .vmem S768x512 .bf16) (harg4 : arg4.IsWhole) (arg5 : Memref sig .tc .vmem S768x1024 .i8) (harg5 : arg5.IsWhole) (arg6 : Memref sig .tc .vmem S768x16 .f32) (harg6 : arg6.IsWhole)
  (arg7 : Memref sig .tc .vmem S768x16 .i8) (harg7 : arg7.IsWhole) (arg8 : Memref sig .tc .vmem S768x2048 .bf16) (harg8 : arg8.IsWhole) (arg9 : Memref sig .tc .vmem S512x2048 .bf16) (harg9 : arg9.IsWhole)
  (k0_h1 : k0_cond1 i = 1#1) (x : Vec F S768x2048 .bf16)

/-- A trip's pieces cover the rows of its block. -/
theorem cover_codes (k : Fin k0_t1_loop.trips) (y : S768x1024.Idx) (hy : (y 0).val / 128 = k.val) :
    ∃ q ∈ (tripL_k0_t1 (F := F) 𝒱 c bd i arg1 harg1 arg2 harg2 arg3 harg3 arg4 harg4 arg5 harg5 arg6 harg6 arg7 harg7 arg8 harg8 arg9 harg9 k0_h1 (harg1.unread x) k).1, y ∈ q.1.set := by
  have hc : (y 1).val < 1024 := (y 1).isLt
  have hk : (trip k).val = k.val := rfl
  unfold tripL_k0_t1 trip_k0_t1
  dsimp only
  by_cases h0 : 896 ≤ (y 1).val ∧ (y 1).val < 896 + 128
  · exact ⟨_, .head _, mem_rect (off24 k) (inb := k0_off24_inb i k k0_h1) y (by rw [hk]; show _ ∧ _ < _ + 128; omega) (by show _ ∧ _ < _ + 128; omega)⟩
  by_cases h1 : 768 ≤ (y 1).val ∧ (y 1).val < 768 + 128
  · exact ⟨_, .tail _ (.head _), mem_rect (off21 k) (inb := k0_off21_inb i k k0_h1) y (by rw [hk]; show _ ∧ _ < _ + 128; omega) (by show _ ∧ _ < _ + 128; omega)⟩
  by_cases h2 : 640 ≤ (y 1).val ∧ (y 1).val < 640 + 128
  · exact ⟨_, .tail _ (.tail _ (.head _)), mem_rect (off19 k) (inb := k0_off19_inb i k k0_h1) y (by rw [hk]; show _ ∧ _ < _ + 128; omega) (by show _ ∧ _ < _ + 128; omega)⟩
  by_cases h3 : 512 ≤ (y 1).val ∧ (y 1).val < 512 + 128
  · exact ⟨_, .tail _ (.tail _ (.tail _ (.head _))), mem_rect (off17 k) (inb := k0_off17_inb i k k0_h1) y (by rw [hk]; show _ ∧ _ < _ + 128; omega) (by show _ ∧ _ < _ + 128; omega)⟩
  by_cases h4 : 384 ≤ (y 1).val ∧ (y 1).val < 384 + 128
  · exact ⟨_, .tail _ (.tail _ (.tail _ (.tail _ (.head _)))), mem_rect (off15 k) (inb := k0_off15_inb i k k0_h1) y (by rw [hk]; show _ ∧ _ < _ + 128; omega) (by show _ ∧ _ < _ + 128; omega)⟩
  by_cases h5 : 256 ≤ (y 1).val ∧ (y 1).val < 256 + 128
  · exact ⟨_, .tail _ (.tail _ (.tail _ (.tail _ (.tail _ (.head _))))), mem_rect (off11 k) (inb := k0_off11_inb i k k0_h1) y (by rw [hk]; show _ ∧ _ < _ + 128; omega) (by show _ ∧ _ < _ + 128; omega)⟩
  by_cases h6 : 128 ≤ (y 1).val ∧ (y 1).val < 128 + 128
  · exact ⟨_, .tail _ (.tail _ (.tail _ (.tail _ (.tail _ (.tail _ (.head _)))))), mem_rect (off7 k) (inb := k0_off7_inb i k k0_h1) y (by rw [hk]; show _ ∧ _ < _ + 128; omega) (by show _ ∧ _ < _ + 128; omega)⟩
  exact ⟨_, .tail _ (.tail _ (.tail _ (.tail _ (.tail _ (.tail _ (.tail _ (.head _))))))), mem_rect (off3 k) (inb := k0_off3_inb i k k0_h1) y (by rw [hk]; show _ ∧ _ < _ + 128; omega) (by show _ ∧ _ < _ + 128; omega)⟩

/-- The trips before the `n`-th store blocks of the array and cover the rows before theirs. -/
theorem upto_codes (n : Nat) (hn : n ≤ k0_t1_loop.trips) :
    View.PiecesOf (CV x) (pb_k0_t1 (F := F) 𝒱 c bd i arg1 harg1 arg2 harg2 arg3 harg3 arg4 harg4 arg5 harg5 arg6 harg6 arg7 harg7 arg8 harg8 arg9 harg9 k0_h1 (harg1.unread x) n).1
    ∧ ∀ y : S768x1024.Idx, (y 0).val / 128 < n → ∃ q ∈ (pb_k0_t1 (F := F) 𝒱 c bd i arg1 harg1 arg2 harg2 arg3 harg3 arg4 harg4 arg5 harg5 arg6 harg6 arg7 harg7 arg8 harg8 arg9 harg9 k0_h1 (harg1.unread x) n).1, y ∈ q.1.set := by
  induction n with
  | zero => exact ⟨trivial, fun y h => absurd h (Nat.not_lt_zero _)⟩
  | succ n ih =>
    obtain ⟨ih1, ih2⟩ := ih (by omega)
    rw [pb_k0_t1_succ (F := F) 𝒱 c bd i arg1 harg1 arg2 harg2 arg3 harg3 arg4 harg4 arg5 harg5 arg6 harg6 arg7 harg7 arg8 harg8 arg9 harg9 k0_h1 (harg1.unread x) ⟨n, hn⟩]
    refine ⟨piecesOf_append _ _ _ (trip_codes 𝒱 c bd i arg1 harg1 arg2 harg2 arg3 harg3 arg4 harg4 arg5 harg5 arg6 harg6 arg7 harg7 arg8 harg8 arg9 harg9 k0_h1 x ⟨n, hn⟩) ih1, fun y hy => ?_⟩
    by_cases h : (y 0).val / 128 = n
    · obtain ⟨q, hq, hm⟩ := cover_codes (F := F) 𝒱 c bd i arg1 harg1 arg2 harg2 arg3 harg3 arg4 harg4 arg5 harg5 arg6 harg6 arg7 harg7 arg8 harg8 arg9 harg9 k0_h1 x ⟨n, hn⟩ y h
      exact ⟨q, List.mem_append_left _ hq, hm⟩
    · obtain ⟨q, hq, hm⟩ := ih2 y (by omega)
      exact ⟨q, List.mem_append_right _ hq, hm⟩

/-- After the loop the buffer holds the whole array. -/
theorem loop_codes (f : BufTy.Contents (Elt F) arg5.view.ty) :
    arg5.view.read (Elt F) (arg5.view.writes (Elt F) f (pb_k0_t1 (F := F) 𝒱 c bd i arg1 harg1 arg2 harg2 arg3 harg3 arg4 harg4 arg5 harg5 arg6 harg6 arg7 harg7 arg8 harg8 arg9 harg9 k0_h1 (harg1.unread x) k0_t1_loop.trips).1) = CV x := by
  funext y
  have hy : (y 0).val < 768 := (y 0).isLt
  obtain ⟨h1, h2⟩ := upto_codes (F := F) 𝒱 c bd i arg1 harg1 arg2 harg2 arg3 harg3 arg4 harg4 arg5 harg5 arg6 harg6 arg7 harg7 arg8 harg8 arg9 harg9 k0_h1 x k0_t1_loop.trips (le_refl _)
  refine View.read_writes_apply_of_pieces arg5.view f (CV x) _ h1.mem y (h2 y ?_)
  rw [show k0_t1_loop.trips = 6 from by decide]
  omega

/-- A trip's pieces cover the rows of its block. -/
theorem cover_scales (k : Fin k0_t1_loop.trips) (y : S768x16.Idx) (hy : (y 0).val / 128 = k.val) :
    ∃ q ∈ (tripL_k0_t1 (F := F) 𝒱 c bd i arg1 harg1 arg2 harg2 arg3 harg3 arg4 harg4 arg5 harg5 arg6 harg6 arg7 harg7 arg8 harg8 arg9 harg9 k0_h1 (harg1.unread x) k).2.1, y ∈ q.1.set := by
  have hc : (y 1).val < 16 := (y 1).isLt
  have hk : (trip k).val = k.val := rfl
  unfold tripL_k0_t1 trip_k0_t1
  dsimp only
  exact ⟨_, .head _, mem_rect (off25 k) (inb := k0_off25_inb i k k0_h1) y (by rw [hk]; show _ ∧ _ < _ + 128; omega) (by show _ ∧ _ < _ + 16; omega)⟩

/-- The trips before the `n`-th store blocks of the array and cover the rows before theirs. -/
theorem upto_scales (n : Nat) (hn : n ≤ k0_t1_loop.trips) :
    View.PiecesOf (SV x) (pb_k0_t1 (F := F) 𝒱 c bd i arg1 harg1 arg2 harg2 arg3 harg3 arg4 harg4 arg5 harg5 arg6 harg6 arg7 harg7 arg8 harg8 arg9 harg9 k0_h1 (harg1.unread x) n).2.1
    ∧ ∀ y : S768x16.Idx, (y 0).val / 128 < n → ∃ q ∈ (pb_k0_t1 (F := F) 𝒱 c bd i arg1 harg1 arg2 harg2 arg3 harg3 arg4 harg4 arg5 harg5 arg6 harg6 arg7 harg7 arg8 harg8 arg9 harg9 k0_h1 (harg1.unread x) n).2.1, y ∈ q.1.set := by
  induction n with
  | zero => exact ⟨trivial, fun y h => absurd h (Nat.not_lt_zero _)⟩
  | succ n ih =>
    obtain ⟨ih1, ih2⟩ := ih (by omega)
    rw [pb_k0_t1_succ (F := F) 𝒱 c bd i arg1 harg1 arg2 harg2 arg3 harg3 arg4 harg4 arg5 harg5 arg6 harg6 arg7 harg7 arg8 harg8 arg9 harg9 k0_h1 (harg1.unread x) ⟨n, hn⟩]
    refine ⟨piecesOf_append _ _ _ (trip_scales 𝒱 c bd i arg1 harg1 arg2 harg2 arg3 harg3 arg4 harg4 arg5 harg5 arg6 harg6 arg7 harg7 arg8 harg8 arg9 harg9 k0_h1 x ⟨n, hn⟩) ih1, fun y hy => ?_⟩
    by_cases h : (y 0).val / 128 = n
    · obtain ⟨q, hq, hm⟩ := cover_scales (F := F) 𝒱 c bd i arg1 harg1 arg2 harg2 arg3 harg3 arg4 harg4 arg5 harg5 arg6 harg6 arg7 harg7 arg8 harg8 arg9 harg9 k0_h1 x ⟨n, hn⟩ y h
      exact ⟨q, List.mem_append_left _ hq, hm⟩
    · obtain ⟨q, hq, hm⟩ := ih2 y (by omega)
      exact ⟨q, List.mem_append_right _ hq, hm⟩

/-- After the loop the buffer holds the whole array. -/
theorem loop_scales (f : BufTy.Contents (Elt F) arg6.view.ty) :
    arg6.view.read (Elt F) (arg6.view.writes (Elt F) f (pb_k0_t1 (F := F) 𝒱 c bd i arg1 harg1 arg2 harg2 arg3 harg3 arg4 harg4 arg5 harg5 arg6 harg6 arg7 harg7 arg8 harg8 arg9 harg9 k0_h1 (harg1.unread x) k0_t1_loop.trips).2.1) = SV x := by
  funext y
  have hy : (y 0).val < 768 := (y 0).isLt
  obtain ⟨h1, h2⟩ := upto_scales (F := F) 𝒱 c bd i arg1 harg1 arg2 harg2 arg3 harg3 arg4 harg4 arg5 harg5 arg6 harg6 arg7 harg7 arg8 harg8 arg9 harg9 k0_h1 x k0_t1_loop.trips (le_refl _)
  refine View.read_writes_apply_of_pieces arg6.view f (SV x) _ h1.mem y (h2 y ?_)
  rw [show k0_t1_loop.trips = 6 from by decide]
  omega

/-- A trip's pieces cover the rows of its block. -/
theorem cover_zeros (k : Fin k0_t1_loop.trips) (y : S768x16.Idx) (hy : (y 0).val / 128 = k.val) :
    ∃ q ∈ (tripL_k0_t1 (F := F) 𝒱 c bd i arg1 harg1 arg2 harg2 arg3 harg3 arg4 harg4 arg5 harg5 arg6 harg6 arg7 harg7 arg8 harg8 arg9 harg9 k0_h1 (harg1.unread x) k).2.2.1, y ∈ q.1.set := by
  have hc : (y 1).val < 16 := (y 1).isLt
  have hk : (trip k).val = k.val := rfl
  unfold tripL_k0_t1 trip_k0_t1
  dsimp only
  exact ⟨_, .head _, mem_rect (off25 k) (inb := k0_off25_inb i k k0_h1) y (by rw [hk]; show _ ∧ _ < _ + 128; omega) (by show _ ∧ _ < _ + 16; omega)⟩

/-- The trips before the `n`-th store blocks of the array and cover the rows before theirs. -/
theorem upto_zeros (n : Nat) (hn : n ≤ k0_t1_loop.trips) :
    View.PiecesOf (ZV x) (pb_k0_t1 (F := F) 𝒱 c bd i arg1 harg1 arg2 harg2 arg3 harg3 arg4 harg4 arg5 harg5 arg6 harg6 arg7 harg7 arg8 harg8 arg9 harg9 k0_h1 (harg1.unread x) n).2.2.1
    ∧ ∀ y : S768x16.Idx, (y 0).val / 128 < n → ∃ q ∈ (pb_k0_t1 (F := F) 𝒱 c bd i arg1 harg1 arg2 harg2 arg3 harg3 arg4 harg4 arg5 harg5 arg6 harg6 arg7 harg7 arg8 harg8 arg9 harg9 k0_h1 (harg1.unread x) n).2.2.1, y ∈ q.1.set := by
  induction n with
  | zero => exact ⟨trivial, fun y h => absurd h (Nat.not_lt_zero _)⟩
  | succ n ih =>
    obtain ⟨ih1, ih2⟩ := ih (by omega)
    rw [pb_k0_t1_succ (F := F) 𝒱 c bd i arg1 harg1 arg2 harg2 arg3 harg3 arg4 harg4 arg5 harg5 arg6 harg6 arg7 harg7 arg8 harg8 arg9 harg9 k0_h1 (harg1.unread x) ⟨n, hn⟩]
    refine ⟨piecesOf_append _ _ _ (trip_zeros 𝒱 c bd i arg1 harg1 arg2 harg2 arg3 harg3 arg4 harg4 arg5 harg5 arg6 harg6 arg7 harg7 arg8 harg8 arg9 harg9 k0_h1 x ⟨n, hn⟩) ih1, fun y hy => ?_⟩
    by_cases h : (y 0).val / 128 = n
    · obtain ⟨q, hq, hm⟩ := cover_zeros (F := F) 𝒱 c bd i arg1 harg1 arg2 harg2 arg3 harg3 arg4 harg4 arg5 harg5 arg6 harg6 arg7 harg7 arg8 harg8 arg9 harg9 k0_h1 x ⟨n, hn⟩ y h
      exact ⟨q, List.mem_append_left _ hq, hm⟩
    · obtain ⟨q, hq, hm⟩ := ih2 y (by omega)
      exact ⟨q, List.mem_append_right _ hq, hm⟩

/-- After the loop the buffer holds the whole array. -/
theorem loop_zeros (f : BufTy.Contents (Elt F) arg7.view.ty) :
    arg7.view.read (Elt F) (arg7.view.writes (Elt F) f (pb_k0_t1 (F := F) 𝒱 c bd i arg1 harg1 arg2 harg2 arg3 harg3 arg4 harg4 arg5 harg5 arg6 harg6 arg7 harg7 arg8 harg8 arg9 harg9 k0_h1 (harg1.unread x) k0_t1_loop.trips).2.2.1) = ZV x := by
  funext y
  have hy : (y 0).val < 768 := (y 0).isLt
  obtain ⟨h1, h2⟩ := upto_zeros (F := F) 𝒱 c bd i arg1 harg1 arg2 harg2 arg3 harg3 arg4 harg4 arg5 harg5 arg6 harg6 arg7 harg7 arg8 harg8 arg9 harg9 k0_h1 x k0_t1_loop.trips (le_refl _)
  refine View.read_writes_apply_of_pieces arg7.view f (ZV x) _ h1.mem y (h2 y ?_)
  rw [show k0_t1_loop.trips = 6 from by decide]
  omega

/-- A trip's pieces cover the rows of its block. -/
theorem cover_acts (k : Fin k0_t1_loop.trips) (y : S768x2048.Idx) (hy : (y 0).val / 128 = k.val) :
    ∃ q ∈ (tripL_k0_t1 (F := F) 𝒱 c bd i arg1 harg1 arg2 harg2 arg3 harg3 arg4 harg4 arg5 harg5 arg6 harg6 arg7 harg7 arg8 harg8 arg9 harg9 k0_h1 (harg1.unread x) k).2.2.2, y ∈ q.1.set := by
  have hc : (y 1).val < 2048 := (y 1).isLt
  have hk : (trip k).val = k.val := rfl
  unfold tripL_k0_t1 trip_k0_t1
  dsimp only
  by_cases h0 : 1920 ≤ (y 1).val ∧ (y 1).val < 1920 + 128
  · exact ⟨_, .head _, mem_rect (off23 k) (inb := k0_off23_inb i k k0_h1) y (by rw [hk]; show _ ∧ _ < _ + 128; omega) (by show _ ∧ _ < _ + 128; omega)⟩
  by_cases h1 : 896 ≤ (y 1).val ∧ (y 1).val < 896 + 128
  · exact ⟨_, .tail _ (.head _), mem_rect (off14 k) (inb := k0_off14_inb i k k0_h1) y (by rw [hk]; show _ ∧ _ < _ + 128; omega) (by show _ ∧ _ < _ + 128; omega)⟩
  by_cases h2 : 1792 ≤ (y 1).val ∧ (y 1).val < 1792 + 128
  · exact ⟨_, .tail _ (.tail _ (.head _)), mem_rect (off22 k) (inb := k0_off22_inb i k k0_h1) y (by rw [hk]; show _ ∧ _ < _ + 128; omega) (by show _ ∧ _ < _ + 128; omega)⟩
  by_cases h3 : 768 ≤ (y 1).val ∧ (y 1).val < 768 + 128
  · exact ⟨_, .tail _ (.tail _ (.tail _ (.head _))), mem_rect (off13 k) (inb := k0_off13_inb i k k0_h1) y (by rw [hk]; show _ ∧ _ < _ + 128; omega) (by show _ ∧ _ < _ + 128; omega)⟩
  by_cases h4 : 1664 ≤ (y 1).val ∧ (y 1).val < 1664 + 128
  · exact ⟨_, .tail _ (.tail _ (.tail _ (.tail _ (.head _)))), mem_rect (off20 k) (inb := k0_off20_inb i k k0_h1) y (by rw [hk]; show _ ∧ _ < _ + 128; omega) (by show _ ∧ _ < _ + 128; omega)⟩
  by_cases h5 : 640 ≤ (y 1).val ∧ (y 1).val < 640 + 128
  · exact ⟨_, .tail _ (.tail _ (.tail _ (.tail _ (.tail _ (.head _))))), mem_rect (off10 k) (inb := k0_off10_inb i k k0_h1) y (by rw [hk]; show _ ∧ _ < _ + 128; omega) (by show _ ∧ _ < _ + 128; omega)⟩
  by_cases h6 : 1536 ≤ (y 1).val ∧ (y 1).val < 1536 + 128
  · exact ⟨_, .tail _ (.tail _ (.tail _ (.tail _ (.tail _ (.tail _ (.head _)))))), mem_rect (off18 k) (inb := k0_off18_inb i k k0_h1) y (by rw [hk]; show _ ∧ _ < _ + 128; omega) (by show _ ∧ _ < _ + 128; omega)⟩
  by_cases h7 : 512 ≤ (y 1).val ∧ (y 1).val < 512 + 128
  · exact ⟨_, .tail _ (.tail _ (.tail _ (.tail _ (.tail _ (.tail _ (.tail _ (.head _))))))), mem_rect (off9 k) (inb := k0_off9_inb i k k0_h1) y (by rw [hk]; show _ ∧ _ < _ + 128; omega) (by show _ ∧ _ < _ + 128; omega)⟩
  by_cases h8 : 1408 ≤ (y 1).val ∧ (y 1).val < 1408 + 128
  · exact ⟨_, .tail _ (.tail _ (.tail _ (.tail _ (.tail _ (.tail _ (.tail _ (.tail _ (.head _)))))))), mem_rect (off16 k) (inb := k0_off16_inb i k k0_h1) y (by rw [hk]; show _ ∧ _ < _ + 128; omega) (by show _ ∧ _ < _ + 128; omega)⟩
  by_cases h9 : 384 ≤ (y 1).val ∧ (y 1).val < 384 + 128
  · exact ⟨_, .tail _ (.tail _ (.tail _ (.tail _ (.tail _ (.tail _ (.tail _ (.tail _ (.tail _ (.head _))))))))), mem_rect (off6 k) (inb := k0_off6_inb i k k0_h1) y (by rw [hk]; show _ ∧ _ < _ + 128; omega) (by show _ ∧ _ < _ + 128; omega)⟩
  by_cases h10 : 1280 ≤ (y 1).val ∧ (y 1).val < 1280 + 128
  · exact ⟨_, .tail _ (.tail _ (.tail _ (.tail _ (.tail _ (.tail _ (.tail _ (.tail _ (.tail _ (.tail _ (.head _)))))))))), mem_rect (off12 k) (inb := k0_off12_inb i k k0_h1) y (by rw [hk]; show _ ∧ _ < _ + 128; omega) (by show _ ∧ _ < _ + 128; omega)⟩
  by_cases h11 : 256 ≤ (y 1).val ∧ (y 1).val < 256 + 128
  · exact ⟨_, .tail _ (.tail _ (.tail _ (.tail _ (.tail _ (.tail _ (.tail _ (.tail _ (.tail _ (.tail _ (.tail _ (.head _))))))))))), mem_rect (off5 k) (inb := k0_off5_inb i k k0_h1) y (by rw [hk]; show _ ∧ _ < _ + 128; omega) (by show _ ∧ _ < _ + 128; omega)⟩
  by_cases h12 : 1152 ≤ (y 1).val ∧ (y 1).val < 1152 + 128
  · exact ⟨_, .tail _ (.tail _ (.tail _ (.tail _ (.tail _ (.tail _ (.tail _ (.tail _ (.tail _ (.tail _ (.tail _ (.tail _ (.head _)))))))))))), mem_rect (off8 k) (inb := k0_off8_inb i k k0_h1) y (by rw [hk]; show _ ∧ _ < _ + 128; omega) (by show _ ∧ _ < _ + 128; omega)⟩
  by_cases h13 : 128 ≤ (y 1).val ∧ (y 1).val < 128 + 128
  · exact ⟨_, .tail _ (.tail _ (.tail _ (.tail _ (.tail _ (.tail _ (.tail _ (.tail _ (.tail _ (.tail _ (.tail _ (.tail _ (.tail _ (.head _))))))))))))), mem_rect (off2 k) (inb := k0_off2_inb i k k0_h1) y (by rw [hk]; show _ ∧ _ < _ + 128; omega) (by show _ ∧ _ < _ + 128; omega)⟩
  by_cases h14 : 1024 ≤ (y 1).val ∧ (y 1).val < 1024 + 128
  · exact ⟨_, .tail _ (.tail _ (.tail _ (.tail _ (.tail _ (.tail _ (.tail _ (.tail _ (.tail _ (.tail _ (.tail _ (.tail _ (.tail _ (.tail _ (.head _)))))))))))))), mem_rect (off4 k) (inb := k0_off4_inb i k k0_h1) y (by rw [hk]; show _ ∧ _ < _ + 128; omega) (by show _ ∧ _ < _ + 128; omega)⟩
  exact ⟨_, .tail _ (.tail _ (.tail _ (.tail _ (.tail _ (.tail _ (.tail _ (.tail _ (.tail _ (.tail _ (.tail _ (.tail _ (.tail _ (.tail _ (.tail _ (.head _))))))))))))))), mem_rect (off1 k) (inb := k0_off1_inb i k k0_h1) y (by rw [hk]; show _ ∧ _ < _ + 128; omega) (by show _ ∧ _ < _ + 128; omega)⟩

/-- The trips before the `n`-th store blocks of the array and cover the rows before theirs. -/
theorem upto_acts (n : Nat) (hn : n ≤ k0_t1_loop.trips) :
    View.PiecesOf (AV x) (pb_k0_t1 (F := F) 𝒱 c bd i arg1 harg1 arg2 harg2 arg3 harg3 arg4 harg4 arg5 harg5 arg6 harg6 arg7 harg7 arg8 harg8 arg9 harg9 k0_h1 (harg1.unread x) n).2.2.2
    ∧ ∀ y : S768x2048.Idx, (y 0).val / 128 < n → ∃ q ∈ (pb_k0_t1 (F := F) 𝒱 c bd i arg1 harg1 arg2 harg2 arg3 harg3 arg4 harg4 arg5 harg5 arg6 harg6 arg7 harg7 arg8 harg8 arg9 harg9 k0_h1 (harg1.unread x) n).2.2.2, y ∈ q.1.set := by
  induction n with
  | zero => exact ⟨trivial, fun y h => absurd h (Nat.not_lt_zero _)⟩
  | succ n ih =>
    obtain ⟨ih1, ih2⟩ := ih (by omega)
    rw [pb_k0_t1_succ (F := F) 𝒱 c bd i arg1 harg1 arg2 harg2 arg3 harg3 arg4 harg4 arg5 harg5 arg6 harg6 arg7 harg7 arg8 harg8 arg9 harg9 k0_h1 (harg1.unread x) ⟨n, hn⟩]
    refine ⟨piecesOf_append _ _ _ (trip_acts 𝒱 c bd i arg1 harg1 arg2 harg2 arg3 harg3 arg4 harg4 arg5 harg5 arg6 harg6 arg7 harg7 arg8 harg8 arg9 harg9 k0_h1 x ⟨n, hn⟩) ih1, fun y hy => ?_⟩
    by_cases h : (y 0).val / 128 = n
    · obtain ⟨q, hq, hm⟩ := cover_acts (F := F) 𝒱 c bd i arg1 harg1 arg2 harg2 arg3 harg3 arg4 harg4 arg5 harg5 arg6 harg6 arg7 harg7 arg8 harg8 arg9 harg9 k0_h1 x ⟨n, hn⟩ y h
      exact ⟨q, List.mem_append_left _ hq, hm⟩
    · obtain ⟨q, hq, hm⟩ := ih2 y (by omega)
      exact ⟨q, List.mem_append_right _ hq, hm⟩

/-- After the loop the buffer holds the whole array. -/
theorem loop_acts (f : BufTy.Contents (Elt F) arg8.view.ty) :
    arg8.view.read (Elt F) (arg8.view.writes (Elt F) f (pb_k0_t1 (F := F) 𝒱 c bd i arg1 harg1 arg2 harg2 arg3 harg3 arg4 harg4 arg5 harg5 arg6 harg6 arg7 harg7 arg8 harg8 arg9 harg9 k0_h1 (harg1.unread x) k0_t1_loop.trips).2.2.2) = AV x := by
  funext y
  have hy : (y 0).val < 768 := (y 0).isLt
  obtain ⟨h1, h2⟩ := upto_acts (F := F) 𝒱 c bd i arg1 harg1 arg2 harg2 arg3 harg3 arg4 harg4 arg5 harg5 arg6 harg6 arg7 harg7 arg8 harg8 arg9 harg9 k0_h1 x k0_t1_loop.trips (le_refl _)
  refine View.read_writes_apply_of_pieces arg8.view f (AV x) _ h1.mem y (h2 y ?_)
  rw [show k0_t1_loop.trips = 6 from by decide]
  omega

end

end Cert.KernelIdeal.Quant

end
-- ==== Proof.Weights.lean ====
/-
  The weights of one grid point: the sixteen stored pieces, each eight bytes' worth of lanes, are the dequantised weights of
  Quant.lean at their places, and together they fill the buffer.
-/
module

public import proofs.«01_k».proof.Proof.Loop
public import Idealize.ShloMosaic.Lib.Pipeline.FrameBody
public import Idealize.ShloMosaic.Lib.VecWindow

@[expose] public section

set_option maxRecDepth 16384

noncomputable section

namespace Cert.KernelIdeal.Quant

open Idealize.ShloMosaic Cert.KernelIdeal Cert.KernelIdeal.Gen
open Idealize.ShloMosaic.ValueIdx (ix2 eq_ix2)
open Idealize.ShloMosaic.WordCmp

variable {F : FTy → Type} [FloatOps F]

/-- One stored piece of weights: a half of each of 512 × 128 bytes, times two columns of scales spread over the lanes. -/
def wBlk (up : BitVec 32) (c0 c1 : FVec F S512x1 .bf16) (b : Vec F S512x128 .i8) : FVec F S512x128 .bf16 :=
  shapeCast S512x128
    (mulf (sitofp .bf16 (shrsi (shli (extui 32 b natLt_8_32) (broadcast S512x128 up)) (broadcast S512x128 28#32)))
      (truncf .bf16
        (select (cmpi .slt (iota .tc S512x128 32 [1] iota_S512x128_d1_w32) (broadcast S512x128 64#32))
          (broadcastTo S512x128 (shapeCast S512x1 (extf .f32 c0 bitsLt_bf16_f32) shapeCasts_S512x1_S512x1) broadcasts_S512x1_S512x128)
          (broadcastTo S512x128 (shapeCast S512x1 (extf .f32 c1 bitsLt_bf16_f32) shapeCasts_S512x1_S512x1) broadcasts_S512x1_S512x128))
        bitsLt_bf16_f32)) shapeCasts_S512x128_S512x128

/-- A piece of weights, at a lane. -/
theorem wBlk_apply (up : BitVec 32) (ws : Vec F S512x16 .f32) (g0 g1 : Fin 16) (c0 c1 : FVec F S512x1 .bf16)
    (h0 : ∀ r : Fin 512, c0 (ix2 r 0) = FloatOps.truncf .bf16 bitsLt_bf16_f32 (ws (ix2 r g0)))
    (h1 : ∀ r : Fin 512, c1 (ix2 r 0) = FloatOps.truncf .bf16 bitsLt_bf16_f32 (ws (ix2 r g1)))
    (b : Vec F S512x128 .i8) (j : S512x128.Idx) :
    wBlk up c0 c1 b j = wElt up (b j) (ws (ix2 (j 0) (if (j 1).val < 64 then g0 else g1))) := by
  have hj : (j 1).val < 128 := (j 1).isLt
  unfold wBlk
  rw [shapeCast_self, shapeCast_self, shapeCast_self]
  have hl : (iota .tc S512x128 32 [1] iota_S512x128_d1_w32) j = BitVec.ofNat 32 (j 1).val := by
    show BitVec.ofNat 32 (0 * 128 + (j 1).val) = _
    rw [Nat.zero_mul, Nat.zero_add]
  have hs : ∀ A B : FVec F S512x128 .f32,
      select (cmpi .slt (iota .tc S512x128 32 [1] iota_S512x128_d1_w32) (broadcast S512x128 64#32)) A B j
        = if (j 1).val < 64 then A j else B j := fun A B => by
    show Scalar.select (IntOp.cmpi .slt ((iota .tc S512x128 32 [1] iota_S512x128_d1_w32) j) (BitVec.ofNat 32 64)) _ _ = _
    rw [hl, cmpi_slt_ofNat (by omega) (by omega), select_ofBool]
  have hb : ∀ a : FVec F S512x1 .f32, broadcastTo S512x128 a broadcasts_S512x1_S512x128 j = a (ix2 (j 0) 0) := fun a =>
    broadcastTo_apply a _ j _ fun d => by match d with | ⟨0, _⟩ => rfl | ⟨1, _⟩ => rfl
  unfold wElt
  show FloatOps.mulf _ (FloatOps.truncf .bf16 bitsLt_bf16_f32 (select _ _ _ j)) = _
  rw [hs, hb, hb]
  show FloatOps.mulf _ (FloatOps.truncf .bf16 bitsLt_bf16_f32 (if (j 1).val < 64 then FloatOps.extf .f32 bitsLt_bf16_f32 (c0 (ix2 (j 0) 0))
    else FloatOps.extf .f32 bitsLt_bf16_f32 (c1 (ix2 (j 0) 0)))) = _
  rw [h0 (j 0), h1 (j 0)]
  by_cases h : (j 1).val < 64
  · rw [if_pos h, if_pos h]; rfl
  · rw [if_neg h, if_neg h]; rfl

/-- The sixteen columns of scales as a buffer that holds them is read. -/
abbrev ldS (arg3 : Memref sig .tc .vmem S512x16 .f32) (X : BufTy.Contents (Elt F) arg3.view.ty) : Vec F S512x16 .f32 :=
  View.readAt (Elt F) arg3.view (Rect.unit (s := S512x16) ![0, 0] S512x16.size inb_S512x16_S512x16_0_0).toLoadRect X

/-- A load of 512 × 128 bytes. -/
abbrev ldW (arg2 : Memref sig .tc .vmem S512x1024 .i8) (off : Fin 2 → Nat)
    (inb : ∀ a, off a + S512x128.size a ≤ S512x1024.size a) (X : BufTy.Contents (Elt F) arg2.view.ty) :
    Vec F S512x128 .i8 :=
  View.readAt (Elt F) arg2.view (Rect.unit (s := S512x1024) off S512x128.size inb).toLoadRect X

section
variable (arg2 : Memref sig .tc .vmem S512x1024 .i8) (harg2 : arg2.IsWhole) (arg3 : Memref sig .tc .vmem S512x16 .f32) (harg3 : arg3.IsWhole)
  (x1 : Vec F S512x1024 .i8) (x2 : Vec F S512x16 .f32)

/-- The scales loaded, rounded, and cut to one column. -/
theorem ldS_col (g : Fin 16) (h : S512x16.Slices ![0, g.val] S512x1) (r : Fin 512) :
    extractStridedSlice S512x1 ![0, g.val] (truncf .bf16 (ldS arg3 (harg3.unread x2)) bitsLt_bf16_f32) h (ix2 r 0)
      = FloatOps.truncf .bf16 bitsLt_bf16_f32 (x2 (ix2 r g)) := by
  rw [extractStridedSlice_apply _ _ _ _ (ix2 r g) fun a => by
    match a with
    | ⟨0, _⟩ => show r.val = 0 + r.val; omega
    | ⟨1, _⟩ => show g.val = g.val + 0; omega]
  show FloatOps.truncf .bf16 bitsLt_bf16_f32 (ldS arg3 (harg3.unread x2) (ix2 r g)) = _
  unfold ldS
  rw [View.readAt_full, harg3.read_unread]

/-- A stored piece of weights is the whole array at its place. -/
theorem piece_w (up : BitVec 32) (base : Nat) (p : Fin 8) (hup : base = 0 ∧ up = 28#32 ∨ base = 1024 ∧ up = 24#32)
    (g0 g1 : Fin 16) (hg0 : g0.val = 2 * p.val) (hg1 : g1.val = 2 * p.val + 1)
    (c0 c1 : FVec F S512x1 .bf16)
    (h0 : ∀ r : Fin 512, c0 (ix2 r 0) = FloatOps.truncf .bf16 bitsLt_bf16_f32 (x2 (ix2 r g0)))
    (h1 : ∀ r : Fin 512, c1 (ix2 r 0) = FloatOps.truncf .bf16 bitsLt_bf16_f32 (x2 (ix2 r g1)))
    (off off' : Fin 2 → Nat) (hoff : off = ![0, 128 * p.val]) (hoff' : off' = ![0, base + 128 * p.val])
    (inb : ∀ a, off a + S512x128.size a ≤ S512x1024.size a) (inb' : ∀ a, off' a + S512x128.size a ≤ S512x2048.size a)
    (y : S512x128.Idx) :
    wBlk up c0 c1 (ldW arg2 off inb (harg2.unread x1)) y
      = WV x1 x2 ((Rect.unit (s := S512x2048) off' S512x128.size inb').emb y) := by
  have hy : (y 1).val < 128 := (y 1).isLt
  have hp := p.isLt
  rw [wBlk_apply up x2 g0 g1 c0 c1 h0 h1]
  subst hoff hoff'
  have e1 : (((Rect.unit (s := S512x2048) ![0, base + 128 * p.val] S512x128.size inb').emb y) 1).val = base + 128 * p.val + (y 1).val := by
    rw [Rect.emb_apply]; show _ + 1 * _ = _; rw [Nat.one_mul]; rfl
  have e0 : ((Rect.unit (s := S512x2048) ![0, base + 128 * p.val] S512x128.size inb').emb y) 0 = y 0 :=
    Fin.ext (by rw [Rect.emb_apply]; show 0 + 1 * _ = _; omega)
  unfold WV
  rw [e0, e1]
  have hb : ldW arg2 ![0, 128 * p.val] inb (harg2.unread x1) y = x1 (ix2 (y 0) (Fin.ofNat 1024 (base + 128 * p.val + (y 1).val))) := by
    unfold ldW
    rw [harg2.readAt_unread]
    refine congrArg x1 (funext fun a => Fin.ext ?_)
    rw [Rect.idx_unit_val]
    match a with
    | ⟨0, _⟩ => show 0 + (y 0).val = (y 0).val; omega
    | ⟨1, _⟩ =>
      show 128 * p.val + (y 1).val = (Fin.ofNat 1024 (base + 128 * p.val + (y 1).val)).val
      rw [Fin.val_ofNat]
      omega
  have hu : up = if base + 128 * p.val + (y 1).val < 1024 then 28#32 else 24#32 := by
    rcases hup with ⟨hb, hu⟩ | ⟨hb, hu⟩
    · rw [if_pos (by omega), hu]
    · rw [if_neg (by omega), hu]
  have hg : (if (y 1).val < 64 then g0 else g1) = Fin.ofNat 16 ((base + 128 * p.val + (y 1).val) % 1024 / 64) := by
    refine Fin.ext ?_
    rw [Fin.val_ofNat]
    split <;> omega
  rw [hb, hg, ← hu]

/-- The sixteen stored pieces, the last one stored first. -/
def wPieces : List (View.Piece (Elt F) S512x2048 .bf16) :=
  [⟨Rect.unit ![0, 1920] S512x128.size inb_S512x2048_S512x128_0_1920,
      wBlk 24#32 (extractStridedSlice S512x1 ![0, 14] (truncf .bf16 (ldS arg3 (harg3.unread x2)) bitsLt_bf16_f32) slices_S512x16_o0_14_S512x1)
        (extractStridedSlice S512x1 ![0, 15] (truncf .bf16 (ldS arg3 (harg3.unread x2)) bitsLt_bf16_f32) slices_S512x16_o0_15_S512x1)
        (ldW arg2 ![0, 896] inb_S512x1024_S512x128_0_896 (harg2.unread x1))⟩,
    ⟨Rect.unit ![0, 896] S512x128.size inb_S512x2048_S512x128_0_896,
      wBlk 28#32 (extractStridedSlice S512x1 ![0, 14] (truncf .bf16 (ldS arg3 (harg3.unread x2)) bitsLt_bf16_f32) slices_S512x16_o0_14_S512x1)
        (extractStridedSlice S512x1 ![0, 15] (truncf .bf16 (ldS arg3 (harg3.unread x2)) bitsLt_bf16_f32) slices_S512x16_o0_15_S512x1)
        (ldW arg2 ![0, 896] inb_S512x1024_S512x128_0_896 (harg2.unread x1))⟩,
    ⟨Rect.unit ![0, 1792] S512x128.size inb_S512x2048_S512x128_0_1792,
      wBlk 24#32 (extractStridedSlice S512x1 ![0, 12] (truncf .bf16 (ldS arg3 (harg3.unread x2)) bitsLt_bf16_f32) slices_S512x16_o0_12_S512x1)
        (extractStridedSlice S512x1 ![0, 13] (truncf .bf16 (ldS arg3 (harg3.unread x2)) bitsLt_bf16_f32) slices_S512x16_o0_13_S512x1)
        (ldW arg2 ![0, 768] inb_S512x1024_S512x128_0_768 (harg2.unread x1))⟩,
    ⟨Rect.unit ![0, 768] S512x128.size inb_S512x2048_S512x128_0_768,
      wBlk 28#32 (extractStridedSlice S512x1 ![0, 12] (truncf .bf16 (ldS arg3 (harg3.unread x2)) bitsLt_bf16_f32) slices_S512x16_o0_12_S512x1)
        (extractStridedSlice S512x1 ![0, 13] (truncf .bf16 (ldS arg3 (harg3.unread x2)) bitsLt_bf16_f32) slices_S512x16_o0_13_S512x1)
        (ldW arg2 ![0, 768] inb_S512x1024_S512x128_0_768 (harg2.unread x1))⟩,
    ⟨Rect.unit ![0, 1664] S512x128.size inb_S512x2048_S512x128_0_1664,
      wBlk 24#32 (extractStridedSlice S512x1 ![0, 10] (truncf .bf16 (ldS arg3 (harg3.unread x2)) bitsLt_bf16_f32) slices_S512x16_o0_10_S512x1)
        (extractStridedSlice S512x1 ![0, 11] (truncf .bf16 (ldS arg3 (harg3.unread x2)) bitsLt_bf16_f32) slices_S512x16_o0_11_S512x1)
        (ldW arg2 ![0, 640] inb_S512x1024_S512x128_0_640 (harg2.unread x1))⟩,
    ⟨Rect.unit ![0, 640] S512x128.size inb_S512x2048_S512x128_0_640,
      wBlk 28#32 (extractStridedSlice S512x1 ![0, 10] (truncf .bf16 (ldS arg3 (harg3.unread x2)) bitsLt_bf16_f32) slices_S512x16_o0_10_S512x1)
        (extractStridedSlice S512x1 ![0, 11] (truncf .bf16 (ldS arg3 (harg3.unread x2)) bitsLt_bf16_f32) slices_S512x16_o0_11_S512x1)
        (ldW arg2 ![0, 640] inb_S512x1024_S512x128_0_640 (harg2.unread x1))⟩,
    ⟨Rect.unit ![0, 1536] S512x128.size inb_S512x2048_S512x128_0_1536,
      wBlk 24#32 (extractStridedSlice S512x1 ![0, 8] (truncf .bf16 (ldS arg3 (harg3.unread x2)) bitsLt_bf16_f32) slices_S512x16_o0_8_S512x1)
        (extractStridedSlice S512x1 ![0, 9] (truncf .bf16 (ldS arg3 (harg3.unread x2)) bitsLt_bf16_f32) slices_S512x16_o0_9_S512x1)
        (ldW arg2 ![0, 512] inb_S512x1024_S512x128_0_512 (harg2.unread x1))⟩,
    ⟨Rect.unit ![0, 512] S512x128.size inb_S512x2048_S512x128_0_512,
      wBlk 28#32 (extractStridedSlice S512x1 ![0, 8] (truncf .bf16 (ldS arg3 (harg3.unread x2)) bitsLt_bf16_f32) slices_S512x16_o0_8_S512x1)
        (extractStridedSlice S512x1 ![0, 9] (truncf .bf16 (ldS arg3 (harg3.unread x2)) bitsLt_bf16_f32) slices_S512x16_o0_9_S512x1)
        (ldW arg2 ![0, 512] inb_S512x1024_S512x128_0_512 (harg2.unread x1))⟩,
    ⟨Rect.unit ![0, 1408] S512x128.size inb_S512x2048_S512x128_0_1408,
      wBlk 24#32 (extractStridedSlice S512x1 ![0, 6] (truncf .bf16 (ldS arg3 (harg3.unread x2)) bitsLt_bf16_f32) slices_S512x16_o0_6_S512x1)
        (extractStridedSlice S512x1 ![0, 7] (truncf .bf16 (ldS arg3 (harg3.unread x2)) bitsLt_bf16_f32) slices_S512x16_o0_7_S512x1)
        (ldW arg2 ![0, 384] inb_S512x1024_S512x128_0_384 (harg2.unread x1))⟩,
    ⟨Rect.unit ![0, 384] S512x128.size inb_S512x2048_S512x128_0_384,
      wBlk 28#32 (extractStridedSlice S512x1 ![0, 6] (truncf .bf16 (ldS arg3 (harg3.unread x2)) bitsLt_bf16_f32) slices_S512x16_o0_6_S512x1)
        (extractStridedSlice S512x1 ![0, 7] (truncf .bf16 (ldS arg3 (harg3.unread x2)) bitsLt_bf16_f32) slices_S512x16_o0_7_S512x1)
        (ldW arg2 ![0, 384] inb_S512x1024_S512x128_0_384 (harg2.unread x1))⟩,
    ⟨Rect.unit ![0, 1280] S512x128.size inb_S512x2048_S512x128_0_1280,
      wBlk 24#32 (extractStridedSlice S512x1 ![0, 4] (truncf .bf16 (ldS arg3 (harg3.unread x2)) bitsLt_bf16_f32) slices_S512x16_o0_4_S512x1)
        (extractStridedSlice S512x1 ![0, 5] (truncf .bf16 (ldS arg3 (harg3.unread x2)) bitsLt_bf16_f32) slices_S512x16_o0_5_S512x1)
        (ldW arg2 ![0, 256] inb_S512x1024_S512x128_0_256 (harg2.unread x1))⟩,
    ⟨Rect.unit ![0, 256] S512x128.size inb_S512x2048_S512x128_0_256,
      wBlk 28#32 (extractStridedSlice S512x1 ![0, 4] (truncf .bf16 (ldS arg3 (harg3.unread x2)) bitsLt_bf16_f32) slices_S512x16_o0_4_S512x1)
        (extractStridedSlice S512x1 ![0, 5] (truncf .bf16 (ldS arg3 (harg3.unread x2)) bitsLt_bf16_f32) slices_S512x16_o0_5_S512x1)
        (ldW arg2 ![0, 256] inb_S512x1024_S512x128_0_256 (harg2.unread x1))⟩,
    ⟨Rect.unit ![0, 1152] S512x128.size inb_S512x2048_S512x128_0_1152,
      wBlk 24#32 (extractStridedSlice S512x1 ![0, 2] (truncf .bf16 (ldS arg3 (harg3.unread x2)) bitsLt_bf16_f32) slices_S512x16_o0_2_S512x1)
        (extractStridedSlice S512x1 ![0, 3] (truncf .bf16 (ldS arg3 (harg3.unread x2)) bitsLt_bf16_f32) slices_S512x16_o0_3_S512x1)
        (ldW arg2 ![0, 128] inb_S512x1024_S512x128_0_128 (harg2.unread x1))⟩,
    ⟨Rect.unit ![0, 128] S512x128.size inb_S512x2048_S512x128_0_128,
      wBlk 28#32 (extractStridedSlice S512x1 ![0, 2] (truncf .bf16 (ldS arg3 (harg3.unread x2)) bitsLt_bf16_f32) slices_S512x16_o0_2_S512x1)
        (extractStridedSlice S512x1 ![0, 3] (truncf .bf16 (ldS arg3 (harg3.unread x2)) bitsLt_bf16_f32) slices_S512x16_o0_3_S512x1)
        (ldW arg2 ![0, 128] inb_S512x1024_S512x128_0_128 (harg2.unread x1))⟩,
    ⟨Rect.unit ![0, 1024] S512x128.size inb_S512x2048_S512x128_0_1024,
      wBlk 24#32 (extractStridedSlice S512x1 ![0, 0] (truncf .bf16 (ldS arg3 (harg3.unread x2)) bitsLt_bf16_f32) slices_S512x16_o0_0_S512x1)
        (extractStridedSlice S512x1 ![0, 1] (truncf .bf16 (ldS arg3 (harg3.unread x2)) bitsLt_bf16_f32) slices_S512x16_o0_1_S512x1)
        (ldW arg2 ![0, 0] inb_S512x1024_S512x128_0_0 (harg2.unread x1))⟩,
    ⟨Rect.unit ![0, 0] S512x128.size inb_S512x2048_S512x128_0_0,
      wBlk 28#32 (extractStridedSlice S512x1 ![0, 0] (truncf .bf16 (ldS arg3 (harg3.unread x2)) bitsLt_bf16_f32) slices_S512x16_o0_0_S512x1)
        (extractStridedSlice S512x1 ![0, 1] (truncf .bf16 (ldS arg3 (harg3.unread x2)) bitsLt_bf16_f32) slices_S512x16_o0_1_S512x1)
        (ldW arg2 ![0, 0] inb_S512x1024_S512x128_0_0 (harg2.unread x1))⟩]

/-- Every stored piece is the array at its place. -/
theorem wPieces_of : View.PiecesOf (WV x1 x2) (wPieces arg2 harg2 arg3 harg3 x1 x2) :=
  ⟨fun y => piece_w arg2 harg2 x1 x2 24#32 1024 7 (.inr ⟨rfl, rfl⟩) 14 15 rfl rfl _ _ (ldS_col arg3 harg3 x2 14 slices_S512x16_o0_14_S512x1) (ldS_col arg3 harg3 x2 15 slices_S512x16_o0_15_S512x1)
      ![0, 896] ![0, 1920] rfl rfl inb_S512x1024_S512x128_0_896 inb_S512x2048_S512x128_0_1920 y,
    fun y => piece_w arg2 harg2 x1 x2 28#32 0 7 (.inl ⟨rfl, rfl⟩) 14 15 rfl rfl _ _ (ldS_col arg3 harg3 x2 14 slices_S512x16_o0_14_S512x1) (ldS_col arg3 harg3 x2 15 slices_S512x16_o0_15_S512x1)
      ![0, 896] ![0, 896] rfl rfl inb_S512x1024_S512x128_0_896 inb_S512x2048_S512x128_0_896 y,
    fun y => piece_w arg2 harg2 x1 x2 24#32 1024 6 (.inr ⟨rfl, rfl⟩) 12 13 rfl rfl _ _ (ldS_col arg3 harg3 x2 12 slices_S512x16_o0_12_S512x1) (ldS_col arg3 harg3 x2 13 slices_S512x16_o0_13_S512x1)
      ![0, 768] ![0, 1792] rfl rfl inb_S512x1024_S512x128_0_768 inb_S512x2048_S512x128_0_1792 y,
    fun y => piece_w arg2 harg2 x1 x2 28#32 0 6 (.inl ⟨rfl, rfl⟩) 12 13 rfl rfl _ _ (ldS_col arg3 harg3 x2 12 slices_S512x16_o0_12_S512x1) (ldS_col arg3 harg3 x2 13 slices_S512x16_o0_13_S512x1)
      ![0, 768] ![0, 768] rfl rfl inb_S512x1024_S512x128_0_768 inb_S512x2048_S512x128_0_768 y,
    fun y => piece_w arg2 harg2 x1 x2 24#32 1024 5 (.inr ⟨rfl, rfl⟩) 10 11 rfl rfl _ _ (ldS_col arg3 harg3 x2 10 slices_S512x16_o0_10_S512x1) (ldS_col arg3 harg3 x2 11 slices_S512x16_o0_11_S512x1)
      ![0, 640] ![0, 1664] rfl rfl inb_S512x1024_S512x128_0_640 inb_S512x2048_S512x128_0_1664 y,
    fun y => piece_w arg2 harg2 x1 x2 28#32 0 5 (.inl ⟨rfl, rfl⟩) 10 11 rfl rfl _ _ (ldS_col arg3 harg3 x2 10 slices_S512x16_o0_10_S512x1) (ldS_col arg3 harg3 x2 11 slices_S512x16_o0_11_S512x1)
      ![0, 640] ![0, 640] rfl rfl inb_S512x1024_S512x128_0_640 inb_S512x2048_S512x128_0_640 y,
    fun y => piece_w arg2 harg2 x1 x2 24#32 1024 4 (.inr ⟨rfl, rfl⟩) 8 9 rfl rfl _ _ (ldS_col arg3 harg3 x2 8 slices_S512x16_o0_8_S512x1) (ldS_col arg3 harg3 x2 9 slices_S512x16_o0_9_S512x1)
      ![0, 512] ![0, 1536] rfl rfl inb_S512x1024_S512x128_0_512 inb_S512x2048_S512x128_0_1536 y,
    fun y => piece_w arg2 harg2 x1 x2 28#32 0 4 (.inl ⟨rfl, rfl⟩) 8 9 rfl rfl _ _ (ldS_col arg3 harg3 x2 8 slices_S512x16_o0_8_S512x1) (ldS_col arg3 harg3 x2 9 slices_S512x16_o0_9_S512x1)
      ![0, 512] ![0, 512] rfl rfl inb_S512x1024_S512x128_0_512 inb_S512x2048_S512x128_0_512 y,
    fun y => piece_w arg2 harg2 x1 x2 24#32 1024 3 (.inr ⟨rfl, rfl⟩) 6 7 rfl rfl _ _ (ldS_col arg3 harg3 x2 6 slices_S512x16_o0_6_S512x1) (ldS_col arg3 harg3 x2 7 slices_S512x16_o0_7_S512x1)
      ![0, 384] ![0, 1408] rfl rfl inb_S512x1024_S512x128_0_384 inb_S512x2048_S512x128_0_1408 y,
    fun y => piece_w arg2 harg2 x1 x2 28#32 0 3 (.inl ⟨rfl, rfl⟩) 6 7 rfl rfl _ _ (ldS_col arg3 harg3 x2 6 slices_S512x16_o0_6_S512x1) (ldS_col arg3 harg3 x2 7 slices_S512x16_o0_7_S512x1)
      ![0, 384] ![0, 384] rfl rfl inb_S512x1024_S512x128_0_384 inb_S512x2048_S512x128_0_384 y,
    fun y => piece_w arg2 harg2 x1 x2 24#32 1024 2 (.inr ⟨rfl, rfl⟩) 4 5 rfl rfl _ _ (ldS_col arg3 harg3 x2 4 slices_S512x16_o0_4_S512x1) (ldS_col arg3 harg3 x2 5 slices_S512x16_o0_5_S512x1)
      ![0, 256] ![0, 1280] rfl rfl inb_S512x1024_S512x128_0_256 inb_S512x2048_S512x128_0_1280 y,
    fun y => piece_w arg2 harg2 x1 x2 28#32 0 2 (.inl ⟨rfl, rfl⟩) 4 5 rfl rfl _ _ (ldS_col arg3 harg3 x2 4 slices_S512x16_o0_4_S512x1) (ldS_col arg3 harg3 x2 5 slices_S512x16_o0_5_S512x1)
      ![0, 256] ![0, 256] rfl rfl inb_S512x1024_S512x128_0_256 inb_S512x2048_S512x128_0_256 y,
    fun y => piece_w arg2 harg2 x1 x2 24#32 1024 1 (.inr ⟨rfl, rfl⟩) 2 3 rfl rfl _ _ (ldS_col arg3 harg3 x2 2 slices_S512x16_o0_2_S512x1) (ldS_col arg3 harg3 x2 3 slices_S512x16_o0_3_S512x1)
      ![0, 128] ![0, 1152] rfl rfl inb_S512x1024_S512x128_0_128 inb_S512x2048_S512x128_0_1152 y,
    fun y => piece_w arg2 harg2 x1 x2 28#32 0 1 (.inl ⟨rfl, rfl⟩) 2 3 rfl rfl _ _ (ldS_col arg3 harg3 x2 2 slices_S512x16_o0_2_S512x1) (ldS_col arg3 harg3 x2 3 slices_S512x16_o0_3_S512x1)
      ![0, 128] ![0, 128] rfl rfl inb_S512x1024_S512x128_0_128 inb_S512x2048_S512x128_0_128 y,
    fun y => piece_w arg2 harg2 x1 x2 24#32 1024 0 (.inr ⟨rfl, rfl⟩) 0 1 rfl rfl _ _ (ldS_col arg3 harg3 x2 0 slices_S512x16_o0_0_S512x1) (ldS_col arg3 harg3 x2 1 slices_S512x16_o0_1_S512x1)
      ![0, 0] ![0, 1024] rfl rfl inb_S512x1024_S512x128_0_0 inb_S512x2048_S512x128_0_1024 y,
    fun y => piece_w arg2 harg2 x1 x2 28#32 0 0 (.inl ⟨rfl, rfl⟩) 0 1 rfl rfl _ _ (ldS_col arg3 harg3 x2 0 slices_S512x16_o0_0_S512x1) (ldS_col arg3 harg3 x2 1 slices_S512x16_o0_1_S512x1)
      ![0, 0] ![0, 0] rfl rfl inb_S512x1024_S512x128_0_0 inb_S512x2048_S512x128_0_0 y,
    trivial⟩

/-- The pieces fill the buffer. -/
theorem wPieces_cover (y : S512x2048.Idx) : ∃ q ∈ wPieces arg2 harg2 arg3 harg3 x1 x2, y ∈ q.1.set := by
  have h0 : (y 0).val < 512 := (y 0).isLt
  have hc : (y 1).val < 2048 := (y 1).isLt
  unfold wPieces
  by_cases h1 : 1920 ≤ (y 1).val ∧ (y 1).val < 1920 + 128
  · exact ⟨_, .head _, mem_rect (r := 0) (c := 1920) rfl (inb := inb_S512x2048_S512x128_0_1920) y (by show _ ∧ _ < _ + 512; omega) (by show _ ∧ _ < _ + 128; omega)⟩
  by_cases h2 : 896 ≤ (y 1).val ∧ (y 1).val < 896 + 128
  · exact ⟨_, .tail _ (.head _), mem_rect (r := 0) (c := 896) rfl (inb := inb_S512x2048_S512x128_0_896) y (by show _ ∧ _ < _ + 512; omega) (by show _ ∧ _ < _ + 128; omega)⟩
  by_cases h3 : 1792 ≤ (y 1).val ∧ (y 1).val < 1792 + 128
  · exact ⟨_, .tail _ (.tail _ (.head _)), mem_rect (r := 0) (c := 1792) rfl (inb := inb_S512x2048_S512x128_0_1792) y (by show _ ∧ _ < _ + 512; omega) (by show _ ∧ _ < _ + 128; omega)⟩
  by_cases h4 : 768 ≤ (y 1).val ∧ (y 1).val < 768 + 128
  · exact ⟨_, .tail _ (.tail _ (.tail _ (.head _))), mem_rect (r := 0) (c := 768) rfl (inb := inb_S512x2048_S512x128_0_768) y (by show _ ∧ _ < _ + 512; omega) (by show _ ∧ _ < _ + 128; omega)⟩
  by_cases h5 : 1664 ≤ (y 1).val ∧ (y 1).val < 1664 + 128
  · exact ⟨_, .tail _ (.tail _ (.tail _ (.tail _ (.head _)))), mem_rect (r := 0) (c := 1664) rfl (inb := inb_S512x2048_S512x128_0_1664) y (by show _ ∧ _ < _ + 512; omega) (by show _ ∧ _ < _ + 128; omega)⟩
  by_cases h6 : 640 ≤ (y 1).val ∧ (y 1).val < 640 + 128
  · exact ⟨_, .tail _ (.tail _ (.tail _ (.tail _ (.tail _ (.head _))))), mem_rect (r := 0) (c := 640) rfl (inb := inb_S512x2048_S512x128_0_640) y (by show _ ∧ _ < _ + 512; omega) (by show _ ∧ _ < _ + 128; omega)⟩
  by_cases h7 : 1536 ≤ (y 1).val ∧ (y 1).val < 1536 + 128
  · exact ⟨_, .tail _ (.tail _ (.tail _ (.tail _ (.tail _ (.tail _ (.head _)))))), mem_rect (r := 0) (c := 1536) rfl (inb := inb_S512x2048_S512x128_0_1536) y (by show _ ∧ _ < _ + 512; omega) (by show _ ∧ _ < _ + 128; omega)⟩
  by_cases h8 : 512 ≤ (y 1).val ∧ (y 1).val < 512 + 128
  · exact ⟨_, .tail _ (.tail _ (.tail _ (.tail _ (.tail _ (.tail _ (.tail _ (.head _))))))), mem_rect (r := 0) (c := 512) rfl (inb := inb_S512x2048_S512x128_0_512) y (by show _ ∧ _ < _ + 512; omega) (by show _ ∧ _ < _ + 128; omega)⟩
  by_cases h9 : 1408 ≤ (y 1).val ∧ (y 1).val < 1408 + 128
  · exact ⟨_, .tail _ (.tail _ (.tail _ (.tail _ (.tail _ (.tail _ (.tail _ (.tail _ (.head _)))))))), mem_rect (r := 0) (c := 1408) rfl (inb := inb_S512x2048_S512x128_0_1408) y (by show _ ∧ _ < _ + 512; omega) (by show _ ∧ _ < _ + 128; omega)⟩
  by_cases h10 : 384 ≤ (y 1).val ∧ (y 1).val < 384 + 128
  · exact ⟨_, .tail _ (.tail _ (.tail _ (.tail _ (.tail _ (.tail _ (.tail _ (.tail _ (.tail _ (.head _))))))))), mem_rect (r := 0) (c := 384) rfl (inb := inb_S512x2048_S512x128_0_384) y (by show _ ∧ _ < _ + 512; omega) (by show _ ∧ _ < _ + 128; omega)⟩
  by_cases h11 : 1280 ≤ (y 1).val ∧ (y 1).val < 1280 + 128
  · exact ⟨_, .tail _ (.tail _ (.tail _ (.tail _ (.tail _ (.tail _ (.tail _ (.tail _ (.tail _ (.tail _ (.head _)))))))))), mem_rect (r := 0) (c := 1280) rfl (inb := inb_S512x2048_S512x128_0_1280) y (by show _ ∧ _ < _ + 512; omega) (by show _ ∧ _ < _ + 128; omega)⟩
  by_cases h12 : 256 ≤ (y 1).val ∧ (y 1).val < 256 + 128
  · exact ⟨_, .tail _ (.tail _ (.tail _ (.tail _ (.tail _ (.tail _ (.tail _ (.tail _ (.tail _ (.tail _ (.tail _ (.head _))))))))))), mem_rect (r := 0) (c := 256) rfl (inb := inb_S512x2048_S512x128_0_256) y (by show _ ∧ _ < _ + 512; omega) (by show _ ∧ _ < _ + 128; omega)⟩
  by_cases h13 : 1152 ≤ (y 1).val ∧ (y 1).val < 1152 + 128
  · exact ⟨_, .tail _ (.tail _ (.tail _ (.tail _ (.tail _ (.tail _ (.tail _ (.tail _ (.tail _ (.tail _ (.tail _ (.tail _ (.head _)))))))))))), mem_rect (r := 0) (c := 1152) rfl (inb := inb_S512x2048_S512x128_0_1152) y (by show _ ∧ _ < _ + 512; omega) (by show _ ∧ _ < _ + 128; omega)⟩
  by_cases h14 : 128 ≤ (y 1).val ∧ (y 1).val < 128 + 128
  · exact ⟨_, .tail _ (.tail _ (.tail _ (.tail _ (.tail _ (.tail _ (.tail _ (.tail _ (.tail _ (.tail _ (.tail _ (.tail _ (.tail _ (.head _))))))))))))), mem_rect (r := 0) (c := 128) rfl (inb := inb_S512x2048_S512x128_0_128) y (by show _ ∧ _ < _ + 512; omega) (by show _ ∧ _ < _ + 128; omega)⟩
  by_cases h15 : 1024 ≤ (y 1).val ∧ (y 1).val < 1024 + 128
  · exact ⟨_, .tail _ (.tail _ (.tail _ (.tail _ (.tail _ (.tail _ (.tail _ (.tail _ (.tail _ (.tail _ (.tail _ (.tail _ (.tail _ (.tail _ (.head _)))))))))))))), mem_rect (r := 0) (c := 1024) rfl (inb := inb_S512x2048_S512x128_0_1024) y (by show _ ∧ _ < _ + 512; omega) (by show _ ∧ _ < _ + 128; omega)⟩
  exact ⟨_, .tail _ (.tail _ (.tail _ (.tail _ (.tail _ (.tail _ (.tail _ (.tail _ (.tail _ (.tail _ (.tail _ (.tail _ (.tail _ (.tail _ (.tail _ (.head _))))))))))))))), mem_rect (r := 0) (c := 0) rfl (inb := inb_S512x2048_S512x128_0_0) y (by show _ ∧ _ < _ + 512; omega) (by show _ ∧ _ < _ + 128; omega)⟩

/-- What a load of the whole buffer after the sixteen stores reads. -/
theorem wPieces_read (arg9 : Memref sig .tc .vmem S512x2048 .bf16) :
    arg9.view.readCov (wPieces arg2 harg2 arg3 harg3 x1 x2)
      (Rect.unit ![0, 0] S512x2048.size inb_S512x2048_S512x2048_0_0).toLoadRect = WV x1 x2 := by
  unfold View.readCov
  rw [View.readAt_full]
  funext y
  exact View.read_writes_apply_of_pieces arg9.view _ (WV x1 x2) _ (wPieces_of arg2 harg2 arg3 harg3 x1 x2).mem y
    (wPieces_cover arg2 harg2 arg3 harg3 x1 x2 y)

end

end Cert.KernelIdeal.Quant

end
-- ==== Proof.Body.lean ====
/-
  The kernel body at one grid point, with what it leaves in every buffer named: at the first point the codes, scales, zero
  points and dequantised activations of the whole array of activations, at every point its block of the product.
-/
module

public import proofs.«01_k».proof.Proof.Weights
public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Quant

variable {F : FTy → Type} [FloatOps F]

local notation "𝕄" => MT nD τ sig Unit (Elt F) ℕ (UR sig nD τ) ℕ

set_option maxHeartbeats 1000000 in
/-- The body at the first grid point. -/
theorem bodyA (c : Dev nD) (i : grid0.Coords) (arg1 : Memref sig .tc .vmem S768x2048 .bf16) (harg1 : arg1.IsWhole) (arg2 : Memref sig .tc .vmem S512x1024 .i8) (harg2 : arg2.IsWhole) (arg3 : Memref sig .tc .vmem S512x16 .f32) (harg3 : arg3.IsWhole) (arg4 : Memref sig .tc .vmem S768x512 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x2048 .bf16) (harg8 : arg8.IsWhole) (arg9 : Memref sig .tc .vmem S512x2048 .bf16) (harg9 : arg9.IsWhole) (hc0 : k0_cond1 i = 1#1)
    (x0 : Vec F S768x2048 .bf16) (x1 : Vec F S512x1024 .i8) (x2 : Vec F S512x16 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare (YV x0 x1 x2) ∗ owns (c : Thread nD τ) arg5 fullShare (CV x0) ∗ owns (c : Thread nD τ) arg6 fullShare (SV x0) ∗ owns (c : Thread nD τ) arg7 fullShare (ZV x0) ∗ owns (c : Thread nD τ) arg8 fullShare (AV x0) ∗ (∃ d, owns (c : Thread nD τ) arg9 fullShare d)) -∗ K ⟨⟩))
          ⊢ wp frame (wpE (defs₀ (F := F)) Variants.none c none) E (cc0_w4a4_linear i arg1 harg1 arg2 harg2 arg3 harg3 arg4 harg4 arg5 harg5 arg6 harg6 arg7 harg7 arg8 harg8 arg9 harg9) K := by
    intro E K
    simp only [cc0_w4a4_linear_eq_skeleton]; unfold cc0_w4a4_linear_skel
    simp only [k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr
      · ipureintro; exact harg1.read_unread _
      · iexact H0
    isplitl [H1]
    · iexists _; isplitr
      · ipureintro; exact harg2.read_unread _
      · iexact H1
    isplitl [H2]
    · iexists _; isplitr
      · ipureintro; exact harg3.read_unread _
      · iexact H2
    isplitl [H3]
    · iexists _; isplitr
      swap
      · iexact H3
      ipureintro
      rw [View.read_writes_full]
      have ha : bodyA.sl.v248 c i arg1 harg1 arg2 harg2 arg3 harg3 arg4 harg4 arg5 harg5 arg6 harg6 arg7 harg7 arg8 harg8 arg9 harg9 hc0 x0 fs0 = AV x0 := by
        unfold bodyA.sl.v248
        rw [View.readAt_full]
        exact loop_acts Variants.none c none i arg1 harg1 arg2 harg2 arg3 harg3 arg4 harg4 arg5 harg5 arg6 harg6 arg7 harg7 arg8 harg8 arg9 harg9 hc0 x0 _
      have hw : bodyA.sl.v249 c arg2 harg2 arg3 harg3 arg9 x1 x2 = WV x1 x2 :=
        wPieces_read arg2 harg2 arg3 harg3 x1 x2 arg9
      unfold bodyA.sl.r_11 YV
      rw [ha, hw]
    isplitl [H4]
    · iexists _; isplitr
      swap
      · iexact H4
      ipureintro
      exact loop_codes Variants.none c none i arg1 harg1 arg2 harg2 arg3 harg3 arg4 harg4 arg5 harg5 arg6 harg6 arg7 harg7 arg8 harg8 arg9 harg9 hc0 x0 _
    isplitl [H5]
    · iexists _; isplitr
      swap
      · iexact H5
      ipureintro
      exact loop_scales Variants.none c none i arg1 harg1 arg2 harg2 arg3 harg3 arg4 harg4 arg5 harg5 arg6 harg6 arg7 harg7 arg8 harg8 arg9 harg9 hc0 x0 _
    isplitl [H6]
    · iexists _; isplitr
      swap
      · iexact H6
      ipureintro
      exact loop_zeros Variants.none c none i arg1 harg1 arg2 harg2 arg3 harg3 arg4 harg4 arg5 harg5 arg6 harg6 arg7 harg7 arg8 harg8 arg9 harg9 hc0 x0 _
    isplitl [HS0]
    · iexists _; isplitr
      swap
      · iexact HS0
      ipureintro
      exact loop_acts Variants.none c none i arg1 harg1 arg2 harg2 arg3 harg3 arg4 harg4 arg5 harg5 arg6 harg6 arg7 harg7 arg8 harg8 arg9 harg9 hc0 x0 _
    iexists _, _; isplitr
    swap
    · iexact HS1
    ipureintro; rfl

set_option maxHeartbeats 1000000 in
/-- The body at a later grid point: the dequantised activations are read from the buffer that holds them. -/
theorem bodyB (c : Dev nD) (i : grid0.Coords) (arg1 : Memref sig .tc .vmem S768x2048 .bf16) (harg1 : arg1.IsWhole) (arg2 : Memref sig .tc .vmem S512x1024 .i8) (harg2 : arg2.IsWhole) (arg3 : Memref sig .tc .vmem S512x16 .f32) (harg3 : arg3.IsWhole) (arg4 : Memref sig .tc .vmem S768x512 .bf16) (harg4 : arg4.IsWhole) (arg5 : Memref sig .tc .vmem S768x1024 .i8) (harg5 : arg5.IsWhole) (arg6 : Memref sig .tc .vmem S768x16 .f32) (harg6 : arg6.IsWhole) (arg7 : Memref sig .tc .vmem S768x16 .i8) (harg7 : arg7.IsWhole) (arg8 : Memref sig .tc .vmem S768x2048 .bf16) (harg8 : arg8.IsWhole) (arg9 : Memref sig .tc .vmem S512x2048 .bf16) (harg9 : arg9.IsWhole) (hc0 : ¬ k0_cond1 i = 1#1)
    (x0 : Vec F S768x2048 .bf16) (x1 : Vec F S512x1024 .i8) (x2 : Vec F S512x16 .f32) (xa : Vec F S768x2048 .bf16)
    (d4 : Vec F S768x1024 .i8) (d5 : Vec F S768x16 .f32) (d6 : Vec F S768x16 .i8) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare d4 ∗ owns (c : Thread nD τ) arg6 fullShare d5 ∗ owns (c : Thread nD τ) arg7 fullShare d6 ∗ owns (c : Thread nD τ) arg8 fullShare xa ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare (k0_pay243 xa (WV x1 x2)) ∗ owns (c : Thread nD τ) arg5 fullShare d4 ∗ owns (c : Thread nD τ) arg6 fullShare d5 ∗ owns (c : Thread nD τ) arg7 fullShare d6 ∗ owns (c : Thread nD τ) arg8 fullShare xa ∗ (∃ d, owns (c : Thread nD τ) arg9 fullShare d)) -∗ K ⟨⟩))
          ⊢ wp frame (wpE (defs₀ (F := F)) Variants.none c none) E (cc0_w4a4_linear i arg1 harg1 arg2 harg2 arg3 harg3 arg4 harg4 arg5 harg5 arg6 harg6 arg7 harg7 arg8 harg8 arg9 harg9) K := by
    intro E K
    simp only [cc0_w4a4_linear_eq_skeleton]; unfold cc0_w4a4_linear_skel
    simp only [k0_part24_eq_skeleton, k0_part25_eq_skeleton, k0_part26_eq_skeleton, k0_part27_eq_skeleton, k0_part28_eq_skeleton, k0_part29_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%fs0, %hs0, HS0⟩, ⟨%ds1, %fs1, -, HS1⟩, Hk⟩
    obtain rfl := harg1.eq_unread hf0; obtain rfl := harg2.eq_unread hf1; obtain rfl := harg3.eq_unread hf2; obtain rfl := harg8.eq_unread hs0
    sl_exec (disch := first | sl_exact hc0)
    sl_step
    iapply Hk
    isplitl [H0]
    · iexists _; isplitr
      · ipureintro; exact harg1.read_unread _
      · iexact H0
    isplitl [H1]
    · iexists _; isplitr
      · ipureintro; exact harg2.read_unread _
      · iexact H1
    isplitl [H2]
    · iexists _; isplitr
      · ipureintro; exact harg3.read_unread _
      · iexact H2
    isplitl [H3]
    · iexists _; isplitr
      swap
      · iexact H3
      ipureintro
      rw [View.read_writes_full]
      have hw : ∀ arg9 : Memref sig .tc .vmem S512x2048 .bf16, arg9.view.readCov (wPieces arg2 harg2 arg3 harg3 x1 x2)
          (Rect.unit ![0, 0] S512x2048.size inb_S512x2048_S512x2048_0_0).toLoadRect = WV x1 x2 :=
        fun _ => wPieces_read arg2 harg2 arg3 harg3 x1 x2 _
      unfold bodyB.sl.r_11
      refine congrArg₂ k0_pay243 ?_ (hw arg9)
      exact (View.readAt_full _ _ _).trans hs0
    isplitl [H4]
    · iexists _; isplitr
      swap
      · iexact H4
      ipureintro; exact hf4
    isplitl [H5]
    · iexists _; isplitr
      swap
      · iexact H5
      ipureintro; exact hf5
    isplitl [H6]
    · iexists _; isplitr
      swap
      · iexact H6
      ipureintro; exact hf6
    isplitl [HS0]
    · iexists _; isplitr
      swap
      · iexact HS0
      ipureintro; exact hs0
    iexists _, _; isplitr
    swap
    · iexact HS1
    ipureintro; rfl

end Cert.KernelIdeal.Run

end
-- ==== Proof.Data.lean ====
/-
  The pipeline's proof data: what the body leaves at each grid point, in every window's buffer and in the two scratch
  buffers, and that the body does leave it. The codes, scales and zero points are stored at the first point and kept; the
  dequantised activations stay in scratch from then on.
-/
module

public import proofs.«01_k».proof.Proof.Body
public import Idealize.ShloMosaic.Lib.Pipeline.TableIdle

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Quant

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point, by arithmetic of the point. -/
theorem first : ∀ t : Fin cfg0.N, k0_cond1 (grid0.coords t) = 1#1 ↔ t.val = 0 :=
  (fun t => by
    have ht : t.val < 11 := Nat.lt_of_lt_of_eq t.isLt N_0
    have e0 : (grid0.coords t 0).val = t.val / 1 % 11 := Pipeline.Grid.coords_val t 0 (by decide) rfl
    rw [show t.val = 0 ↔ t.val % 11 = 0 from by omega]
    simp only [k0_cond1, e0]
    word_cmp
   : ∀ t : Fin grid0.N, k0_cond1 (grid0.coords t) = 1#1 ↔ t.val = 0)

/-- The whole array of activations, as the first point's block. -/
abbrev act (c : Dev nD) : Vec F S768x2048 .bf16 := iblk m c 0 t0_0

/-- The scratch buffers. -/
abbrev scM0_0 : Memref sig .tc .vmem S768x2048 .bf16 := Memref.whole cc0_scratch0
abbrev scM0_1 : Memref sig .tc .vmem S512x2048 .bf16 := Memref.whole cc0_scratch1

/-- The scratch buffers at any contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- After the first point: the first scratch buffer holds the dequantised activations. -/
def held (c : Dev nD) : sProp 𝕄 :=
  iprop(iprop(owns (c : Thread nD τ) scM0_0 fullShare (AV (act m c)) ∗ (∃ d, owns (c : Thread nD τ) scM0_1 fullShare d)) ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => YV (act m c) (iblk m c 1 t) (iblk m c 2 t)
    | ⟨4, _⟩ => CV (act m c)
    | ⟨5, _⟩ => SV (act m c)
    | ⟨6, _⟩ => ZV (act m c)
  Φ t := if t.val = 0 then Pipeline.ΦA spec0 c else held m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = YV (act m c) (iblk m c 1 t) (iblk m c 2 t) := by dsimp only [dats]
theorem after0_4 (c : Dev nD) (t : Fin cfg0.N) : (dats m 0 c).after 4 t = CV (act m c) := by dsimp only [dats]
theorem after0_5 (c : Dev nD) (t : Fin cfg0.N) : (dats m 0 c).after 5 t = SV (act m c) := by dsimp only [dats]
theorem after0_6 (c : Dev nD) (t : Fin cfg0.N) : (dats m 0 c).after 6 t = ZV (act m c) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The windows stored at the first point only -/

/-- Past the first point such a window's buffer holds something stored. -/
theorem fresh_later (w : Fin cfg0.W) (hi : ∀ t : Fin cfg0.N, t.val = 0 → cfg0.idle w (cfg0.grid.coords t) = false)
    (hf : ∀ t : Fin cfg0.N, (cfg0.win w).flush t = true → t.val % 11 = 10) :
    ∀ n, n + 1 < cfg0.N → cfg0.fresh w (n + 1) = false
  | 0, h => by
    have h0 : 0 < cfg0.N := by omega
    have hf0 : (cfg0.win w).flush ⟨0, h0⟩ = false :=
      Bool.eq_false_iff.mpr fun hh => absurd (hf ⟨0, h0⟩ hh) (by show ¬ 0 % 11 = 10; omega)
    rw [Cfg.fresh_succ cfg0 w 0 h0, hi ⟨0, h0⟩ rfl, hf0]
    rfl
  | n + 1, h => by
    have h0 : n + 1 < cfg0.N := by omega
    have hN : cfg0.N = 11 := N_0
    have hf0 : (cfg0.win w).flush ⟨n + 1, h0⟩ = false :=
      Bool.eq_false_iff.mpr fun hh => absurd (hf ⟨n + 1, h0⟩ hh) (by show ¬ (n + 1) % 11 = 10; omega)
    rw [Cfg.fresh_succ cfg0 w (n + 1) h0, fresh_later w hi hf n h0, hf0, Bool.and_false]
    rfl

theorem live4 (t : Fin cfg0.N) (h : t.val = 0) : cfg0.idle 4 (cfg0.grid.coords t) = false := by
  show (!(k0_cond1 (grid0.coords t) == 1#1)) = false
  rw [(first t).mpr h]; rfl
theorem live5 (t : Fin cfg0.N) (h : t.val = 0) : cfg0.idle 5 (cfg0.grid.coords t) = false := live4 t h
theorem live6 (t : Fin cfg0.N) (h : t.val = 0) : cfg0.idle 6 (cfg0.grid.coords t) = false := live4 t h

theorem idle4 (t : Fin cfg0.N) (h : t.val ≠ 0) : cfg0.idle 4 (cfg0.grid.coords t) = true := by
  show (!(k0_cond1 (grid0.coords t) == 1#1)) = true
  rw [Bool.not_eq_true', beq_eq_false_iff_ne]
  exact fun hh => h ((first t).mp hh)
theorem idle5 (t : Fin cfg0.N) (h : t.val ≠ 0) : cfg0.idle 5 (cfg0.grid.coords t) = true := idle4 t h
theorem idle6 (t : Fin cfg0.N) (h : t.val ≠ 0) : cfg0.idle 6 (cfg0.grid.coords t) = true := idle4 t h

section
variable (c : Dev nD) (t : Fin cfg0.N) (ht : t.val ≠ 0)
include ht

theorem fresh_at (w : Fin cfg0.W) (hi : ∀ t : Fin cfg0.N, t.val = 0 → cfg0.idle w (cfg0.grid.coords t) = false)
    (hf : ∀ t : Fin cfg0.N, (cfg0.win w).flush t = true → t.val % 11 = 10) : cfg0.fresh w t.val = false := by
  obtain ⟨n, hn⟩ := Nat.exists_eq_succ_of_ne_zero ht
  rw [hn]
  exact fresh_later w hi hf n (by have := t.isLt; omega)

theorem before0_4 (d) : (dats m 0 c).before 4 t d = CV (act m c) := by
  rw [(dats m 0 c).before_out_traj 4 rfl (fun _ _ => rfl) (fun _ _ _ _ => by rw [after0_4, after0_4]) t.val t rfl d,
    if_neg (by rw [fresh_at t ht 4 live4 fun t => (flush0_4 t).mp]; exact Bool.false_ne_true), after0_4]
theorem before0_5 (d) : (dats m 0 c).before 5 t d = SV (act m c) := by
  rw [(dats m 0 c).before_out_traj 5 rfl (fun _ _ => rfl) (fun _ _ _ _ => by rw [after0_5, after0_5]) t.val t rfl d,
    if_neg (by rw [fresh_at t ht 5 live5 fun t => (flush0_5 t).mp]; exact Bool.false_ne_true), after0_5]
theorem before0_6 (d) : (dats m 0 c).before 6 t d = ZV (act m c) := by
  rw [(dats m 0 c).before_out_traj 6 rfl (fun _ _ => rfl) (fun _ _ _ _ => by rw [after0_6, after0_6]) t.val t rfl d,
    if_neg (by rw [fresh_at t ht 6 live6 fun t => (flush0_6 t).mp]; exact Bool.false_ne_true), after0_6]

end

end Cert.KernelIdeal.Run

end
-- ==== Proof.RunMain.lean ====
/-
  The run: the body obligation at every grid point, and from it that every run ends with the arrays the proof data names and
  every semaphore at zero.
-/
module

public import proofs.«01_k».proof.Proof.Data
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Quant

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev ms0_0 (t : Fin cfg0.N) : Memref sig .tc .vmem S768x2048 .bf16 := win0_0.stage (cfg0.slots t 0)
abbrev ms0_1 (t : Fin cfg0.N) : Memref sig .tc .vmem S512x1024 .i8 := win0_1.stage (cfg0.slots t 1)
abbrev ms0_2 (t : Fin cfg0.N) : Memref sig .tc .vmem S512x16 .f32 := win0_2.stage (cfg0.slots t 2)
abbrev ms0_3 (t : Fin cfg0.N) : Memref sig .tc .vmem S768x512 .bf16 := win0_3.stage (cfg0.slots t 3)
abbrev ms0_4 (t : Fin cfg0.N) : Memref sig .tc .vmem S768x1024 .i8 := win0_4.stage (cfg0.slots t 4)
abbrev ms0_5 (t : Fin cfg0.N) : Memref sig .tc .vmem S768x16 .f32 := win0_5.stage (cfg0.slots t 5)
abbrev ms0_6 (t : Fin cfg0.N) : Memref sig .tc .vmem S768x16 .i8 := win0_6.stage (cfg0.slots t 6)

section
variable (c : Dev nD) (t : Fin cfg0.N)

theorem leaves_0 : (dats m 0 c).leavesExact 0 t = owns (c : Thread nD τ) (ms0_0 t) fullShare ((dats m 0 c).after 0 t) := by
  unfold Dat.leavesExact; rw [show cfg0.idle 0 (cfg0.grid.coords t) = false from rfl]
theorem leaves_1 : (dats m 0 c).leavesExact 1 t = owns (c : Thread nD τ) (ms0_1 t) fullShare ((dats m 0 c).after 1 t) := by
  unfold Dat.leavesExact; rw [show cfg0.idle 1 (cfg0.grid.coords t) = false from rfl]
theorem leaves_2 : (dats m 0 c).leavesExact 2 t = owns (c : Thread nD τ) (ms0_2 t) fullShare ((dats m 0 c).after 2 t) := by
  unfold Dat.leavesExact; rw [show cfg0.idle 2 (cfg0.grid.coords t) = false from rfl]
theorem leaves_3 : (dats m 0 c).leavesExact 3 t = owns (c : Thread nD τ) (ms0_3 t) fullShare ((dats m 0 c).after 3 t) := by
  unfold Dat.leavesExact; rw [show cfg0.idle 3 (cfg0.grid.coords t) = false from rfl]
/-- At every point window 4's buffer is left at what the first point stored. -/
theorem leaves_4 : owns (c : Thread nD τ) (ms0_4 t) fullShare (CV (act m c)) ⊢ (dats m 0 c).leavesExact 4 t := by
  by_cases h : t.val = 0
  · unfold Dat.leavesExact; rw [live4 t h, after0_4]
  · cases hf : (cfg0.win 4).flush t
    · rw [Dat.leavesExact_idle _ _ _ (idle4 t h) hf]
      iintro H
      iexists (fun _ => Classical.arbitrary _)
      rw [before0_4 m c t h]
      iexact H
    · unfold Dat.leavesExact; rw [idle4 t h, hf, after0_4]
/-- At every point window 5's buffer is left at what the first point stored. -/
theorem leaves_5 : owns (c : Thread nD τ) (ms0_5 t) fullShare (SV (act m c)) ⊢ (dats m 0 c).leavesExact 5 t := by
  by_cases h : t.val = 0
  · unfold Dat.leavesExact; rw [live5 t h, after0_5]
  · cases hf : (cfg0.win 5).flush t
    · rw [Dat.leavesExact_idle _ _ _ (idle5 t h) hf]
      iintro H
      iexists (fun _ => Classical.arbitrary _)
      rw [before0_5 m c t h]
      iexact H
    · unfold Dat.leavesExact; rw [idle5 t h, hf, after0_5]
/-- At every point window 6's buffer is left at what the first point stored. -/
theorem leaves_6 : owns (c : Thread nD τ) (ms0_6 t) fullShare (ZV (act m c)) ⊢ (dats m 0 c).leavesExact 6 t := by
  by_cases h : t.val = 0
  · unfold Dat.leavesExact; rw [live6 t h, after0_6]
  · cases hf : (cfg0.win 6).flush t
    · rw [Dat.leavesExact_idle _ _ _ (idle6 t h) hf]
      iintro H
      iexists (fun _ => Classical.arbitrary _)
      rw [before0_6 m c t h]
      iexact H
    · unfold Dat.leavesExact; rw [idle6 t h, hf, after0_6]

end

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem Phi_zero (c : Dev nD) (t : Fin cfg0.N) (h : t.val = 0) : (dats m 0 c).Φ t.castSucc = Pipeline.ΦA spec0 c := by
  dsimp only [dats]; exact if_pos h
theorem Phi_pos (c : Dev nD) (t : Fin cfg0.N) (h : t.val ≠ 0) : (dats m 0 c).Φ t.castSucc = held m c := by
  dsimp only [dats]; exact if_neg h
theorem Phi_succ (c : Dev nD) (t : Fin cfg0.N) : (dats m 0 c).Φ t.succ = held m c := by
  dsimp only [dats]; exact if_neg (Nat.succ_ne_zero _)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, Phi_succ,
    leaves_0, leaves_1, leaves_2, leaves_3, after0_0, after0_1, after0_2, after0_3]
  by_cases h0 : t.val = 0
  · obtain rfl : t = t0_0 := Fin.ext h0
    rw [Phi_zero m c _ h0, PhiA0_eq]
    unfold held
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((bodyA c (grid0.coords t0_0) _ _ _ _ _ _ _ _ _ _ _ _ _ _ _ _ _ _ ((first t0_0).mpr h0) (iblk m c 0 t0_0) (iblk m c 1 t0_0) (iblk m c 2 t0_0)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iapply (leaves_4 m c t0_0); iexact H4
    isplitl [H5]; · iapply (leaves_5 m c t0_0); iexact H5
    iapply (leaves_6 m c t0_0); iexact H6
  · rw [Phi_pos m c t h0]
    simp only [before0_4 m c t h0, before0_5 m c t h0, before0_6 m c t h0]
    unfold held
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((bodyB c (grid0.coords t) _ _ _ _ _ _ _ _ _ _ _ _ _ _ _ _ _ _ (fun h => h0 ((first t).mp h)) (iblk m c 0 t) (iblk m c 1 t) (iblk m c 2 t) (AV (act m c)) (CV (act m c)) (SV (act m c)) (ZV (act m c))) Set.univ _)
    isplitl [H0]; · iexact H0
    isplitl [H1]; · iexact H1
    isplitl [H2]; · iexact H2
    isplitl [H3]; · iexists _; iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iapply (leaves_4 m c t); iexact H4
    isplitl [H5]; · iapply (leaves_5 m c t); iexact H5
    iapply (leaves_6 m c t); iexact H6

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- After the last point the scratch contents are forgotten. -/
theorem held_forget (c : Dev nD) : held m c ⊢ (Pipeline.ΦA spec0 c : sProp 𝕄) := by
  rw [PhiA0_eq]
  unfold held
  iintro ⟨⟨HS0, HS1⟩, Hg⟩
  isplitl [HS0 HS1]
  · isplitl [HS0]
    · iexists _; iexact HS0
    iexact HS1
  iexact Hg

theorem Phi_first (c : Dev nD) : (dats m 0 c).Φ 0 = Pipeline.ΦA spec0 c := by
  dsimp only [dats]; exact if_pos rfl
theorem Phi_last (c : Dev nD) : (dats m 0 c).Φ (Fin.last cfg0.N) = held m c := by
  dsimp only [dats]; exact if_neg (by rw [Fin.val_last, show cfg0.N = 11 from N_0]; omega)

set_option backward.isDefEq.respectTransparency.types false in
/-- Every run ends, in the arrays the proof data names, with every semaphore at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Phi_first]) (hout := fun c => by rw [Phi_last]; exact held_forget m c)

/-- The frame: the arguments end unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Run

end
-- ==== Proof.Final.lean ====
/-
  The four result arrays after the run, as functions of the three arguments: the codes, scales and zero points of the
  reshaped activations, and the product taken 512 weight rows at a time.
-/
module

public import proofs.«01_k».proof.Proof.RunMain
public import Idealize.ShloMosaic.Lib.Pipeline.ValueKit

@[expose] public section

set_option maxRecDepth 16384

noncomputable section

namespace Cert.KernelIdeal.Run

open Idealize.ShloMosaic Idealize.ShloMosaic.TcCoe Idealize.ShloMosaic.Tactic
open Idealize.SL Idealize.SL.Sem
open Cert.KernelIdeal Cert.KernelIdeal.Gen Cert.KernelIdeal.Quant

variable {F : FTy → Type} [FloatOps F]

/-- Weight rows `512 t …`, packed. -/
def wpBlk (wp : Vec F S5632x1024 .i8) (t : Fin 11) : Vec F S512x1024 .i8 := fun j =>
  wp (ValueIdx.ix2 ⟨512 * t.val + (j 0).val, by have h : (j 0).val < 512 := (j 0).isLt; have := t.isLt; omega⟩ (j 1))

/-- The scales of weight rows `512 t …`. -/
def wsBlk (ws : Vec F S5632x16 .f32) (t : Fin 11) : Vec F S512x16 .f32 := fun j =>
  ws (ValueIdx.ix2 ⟨512 * t.val + (j 0).val, by have h : (j 0).val < 512 := (j 0).isLt; have := t.isLt; omega⟩ (j 1))

/-- The product, a block of 512 columns from each block of 512 weight rows. -/
def OV (x : Vec F S768x2048 .bf16) (wp : Vec F S5632x1024 .i8) (ws : Vec F S5632x16 .f32) : Vec F S768x5632 .bf16 :=
  fun y => YV x (wpBlk wp (Fin.ofNat 11 ((y 1).val / 512))) (wsBlk ws (Fin.ofNat 11 ((y 1).val / 512)))
    (ValueIdx.ix2 (y 0) (Fin.ofNat 512 (y 1).val))

/-- The activations without their leading axis of one. -/
def rowsOf (x : Vec F S1x768x2048 .bf16) : Vec F S768x2048 .bf16 := shapeCast S768x2048 x shapeCasts_S1x768x2048_S768x2048

variable (m : (ℓ : Loc nD τ sig) → Buf (Elt F) ℓ) (ρ : Dev nD → PrngReg)

/-- The reshaped activations, as the grid finds them. -/
theorem V_v0 (c : Dev nD) : V m c main_v0 = rowsOf (F := F) (m ((c : Thread nD τ).loc main_arg0)) := by
  unfold V hostOps0
  rfl

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)

/-- The activations' block is the whole array. -/
theorem act_eq (c : Dev nD) : act m c = rowsOf (F := F) (m ((c : Thread nD τ).loc main_arg0)) := by
  rw [← V_v0 m c]
  funext y
  show iblk m c 0 t0_0 y = _
  blk_simp [iblk, idx0]
  congr 1
  blk_ext [idx0]

/-- The weights' block at a point, as the rows it covers. -/
theorem wp_eq (c : Dev nD) (t : Fin cfg0.N) :
    iblk m c 1 t = wpBlk (F := F) (m ((c : Thread nD τ).loc main_arg1)) (Fin.ofNat 11 t.val) := by
  have ht : t.val < 11 := Nat.lt_of_lt_of_eq t.isLt N_0
  rw [← V_main_arg1 m c]
  funext y
  unfold wpBlk
  blk_simp [iblk, idx1]
  congr 1
  blk_ext [idx1]
  rw [Fin.val_ofNat]; omega

/-- The weights' scales at a point, likewise. -/
theorem ws_eq (c : Dev nD) (t : Fin cfg0.N) :
    iblk m c 2 t = wsBlk (F := F) (m ((c : Thread nD τ).loc main_arg2)) (Fin.ofNat 11 t.val) := by
  have ht : t.val < 11 := Nat.lt_of_lt_of_eq t.isLt N_0
  rw [← V_main_arg2 m c]
  funext y
  unfold wsBlk
  blk_simp [iblk, idx2]
  congr 1
  blk_ext [idx2]
  rw [Fin.val_ofNat]; omega

/-- The product array after the run. -/
theorem final_3 (c : Dev nD) : (dats m 0 c).arrAt 3 cfg0.N = OV (F := F) (rowsOf (m ((c : Thread nD τ).loc main_arg0)))
    (m ((c : Thread nD τ).loc main_arg1)) (m ((c : Thread nD τ).loc main_arg2)) := by
  refine (dats m 0 c).arrAt_eq_of_covers 3 _ (by decide +kernel) fun t hf y => ?_
  have ht : t.val < 11 := Nat.lt_of_lt_of_eq t.isLt N_0
  blk_simp
  rw [after0_3, act_eq, wp_eq, ws_eq]
  generalize he : ((win0_3.blk t).view.emb y) = e
  have h0 : (e 0).val = (y 0).val := by subst he; blk_simp [idx3]
  have h1 : (e 1).val = t.val * 512 + (y 1).val := by subst he; blk_simp [idx3]
  have hy : (y 1).val < 512 := (y 1).isLt
  have hq : (e 1).val / 512 = t.val := by rw [h1]; omega
  unfold OV
  rw [hq]
  congr 1
  funext a
  fin_cases a
  · exact Fin.ext h0.symm
  · refine Fin.ext ?_
    show (y 1).val = (e 1).val % 512
    rw [h1]; omega

/-- The codes after the run. -/
theorem final_4 (c : Dev nD) : (dats m 0 c).arrAt 4 cfg0.N = CV (F := F) (rowsOf (m ((c : Thread nD τ).loc main_arg0))) := by
  refine (dats m 0 c).arrAt_eq_of_after_last 4 t0_10 (by decide +kernel) _ fun j => ?_
  blk_simp
  rw [after0_4, act_eq]

/-- The scales after the run. -/
theorem final_5 (c : Dev nD) : (dats m 0 c).arrAt 5 cfg0.N = SV (F := F) (rowsOf (m ((c : Thread nD τ).loc main_arg0))) := by
  refine (dats m 0 c).arrAt_eq_of_after_last 5 t0_10 (by decide +kernel) _ fun j => ?_
  blk_simp
  rw [after0_5, act_eq]

/-- The zero points after the run. -/
theorem final_6 (c : Dev nD) : (dats m 0 c).arrAt 6 cfg0.N = ZV (F := F) (rowsOf (m ((c : Thread nD τ).loc main_arg0))) := by
  refine (dats m 0 c).arrAt_eq_of_after_last 6 t0_10 (by decide +kernel) _ fun j => ?_
  blk_simp
  rw [after0_6, act_eq]

/-- The run: the four results as functions of the arguments, and the arguments unchanged. -/
theorem run : θ_run (defs (F := F)) (onTc (τ := τ) (main (F := F))) ⟨m, fun _ => 0, ρ⟩ (fun r => ∀ c : Dev nD,
    r.2.mem ((c.tc : Thread nD τ).loc main_v1_0) = OV (F := F) (rowsOf (m ((c : Thread nD τ).loc main_arg0)))
        (m ((c : Thread nD τ).loc main_arg1)) (m ((c : Thread nD τ).loc main_arg2))
    ∧ r.2.mem ((c.tc : Thread nD τ).loc main_v1_1) = CV (F := F) (rowsOf (m ((c : Thread nD τ).loc main_arg0)))
    ∧ r.2.mem ((c.tc : Thread nD τ).loc main_v1_2) = SV (F := F) (rowsOf (m ((c : Thread nD τ).loc main_arg0)))
    ∧ r.2.mem ((c.tc : Thread nD τ).loc main_v1_3) = ZV (F := F) (rowsOf (m ((c : Thread nD τ).loc main_arg0)))) := by
  refine (θ_run _ _ _).mono (fun r h c => ?_) (run_main (F := F) m ρ)
  exact ⟨((h.1 c).1 3).trans (final_3 m c), ((h.1 c).1 4).trans (final_4 m c), ((h.1 c).1 5).trans (final_5 m c),
    ((h.1 c).1 6).trans (final_6 m c)⟩

end Cert.KernelIdeal.Run

end
-- ==== Proof.Scalar.lean ====
/-
  Quantization of one group of 128 activations over the extended reals: its scale, zero point and codes. The zero point
  and the codes are whole numbers from 0 to 15, whatever the activations are, infinite ones included.
-/
module

public import Idealize.ShloMosaic.Lib.IdealHost

@[expose] public section

noncomputable section

namespace Cert.Group

open Idealize.ShloMosaic

/-- Fifteen, as the programs write it. -/
abbrev k15 : EReal := Ideal.ofBits .f32 0x41700000#32

/-- The group's least entry, capped at zero. -/
def lo (f : Fin 128 → EReal) : EReal := min (Finset.univ.fold min (Ideal.ofBits .f32 0x7F800000#32) f) 0
/-- The group's greatest entry, floored at zero. -/
def hi (f : Fin 128 → EReal) : EReal := max (Finset.univ.fold max (Ideal.ofBits .f32 0xFF800000#32) f) 0

/-- The scale of a range. -/
def scale (a b : EReal) : EReal := if b = a then 1 else Ideal.div (b - a) k15
/-- The zero point, from the range's lower end and the scale. -/
def zero (a s : EReal) : EReal := Ideal.liftRound Ideal.roundHalfEven (Ideal.div (-a) s)
/-- The code of one activation, from the scale and the zero point. -/
def code (v s z : EReal) : EReal := min k15 (max 0 (Ideal.liftRound Ideal.roundHalfEven (Ideal.div v s) + z))

/-- The group's scale. -/
def sc (f : Fin 128 → EReal) : EReal := scale (lo f) (hi f)
/-- The group's zero point. -/
def zp (f : Fin 128 → EReal) : EReal := zero (lo f) (sc f)
/-- The group's codes. -/
def cd (f : Fin 128 → EReal) (l : Fin 128) : EReal := code (f l) (sc f) (zp f)

theorem k15_eq : k15 = ((15 : ℝ) : EReal) := by
  simp [k15, Ideal.ofBits, Ideal.ieee]
  rw [← EReal.coe_mul]
  norm_num

theorem lo_le (f : Fin 128 → EReal) : lo f ≤ 0 := min_le_right _ _
theorem hi_ge (f : Fin 128 → EReal) : 0 ≤ hi f := le_max_right _ _

/-- Rounding a real from 0 to 15 gives a whole number from 0 to 15. -/
theorem round_range {r : ℝ} (h0 : 0 ≤ r) (h15 : r ≤ 15) : 0 ≤ Ideal.roundHalfEven r ∧ Ideal.roundHalfEven r ≤ 15 := by
  have hf0 : 0 ≤ ⌊r⌋ := Int.floor_nonneg.mpr h0
  have hf15 : ⌊r⌋ ≤ 15 := by
    have := Int.floor_le r
    exact_mod_cast (this.trans h15)
  have hlast : ⌊r⌋ = 15 → r - ⌊r⌋ < 1 / 2 := by
    intro e; rw [e]; push_cast; linarith
  unfold Ideal.roundHalfEven
  dsimp only
  split_ifs with h1 h2 h3
  · exact ⟨hf0, hf15⟩
  · refine ⟨by omega, ?_⟩
    rcases lt_or_eq_of_le hf15 with h | h
    · omega
    · exact absurd (hlast h) h1
  · exact ⟨hf0, hf15⟩
  · refine ⟨by omega, ?_⟩
    rcases lt_or_eq_of_le hf15 with h | h
    · omega
    · exact absurd (hlast h) h1

/-- The zero point is a whole number from 0 to 15. -/
theorem zero_nat {a b : EReal} (ha : a ≤ 0) (hb : 0 ≤ b) : ∃ n : ℕ, n ≤ 15 ∧ zero a (scale a b) = ((n : ℝ) : EReal) := by
  suffices h : ∃ r : ℝ, 0 ≤ r ∧ r ≤ 15 ∧ Ideal.div (-a) (scale a b) = (r : EReal) by
    obtain ⟨r, h0, h15, hr⟩ := h
    obtain ⟨g0, g15⟩ := round_range h0 h15
    refine ⟨(Ideal.roundHalfEven r).toNat, by omega, ?_⟩
    unfold zero
    rw [hr]
    show (((Ideal.roundHalfEven r : ℤ) : ℝ) : EReal) = _
    have : ((Ideal.roundHalfEven r : ℤ) : ℝ) = (((Ideal.roundHalfEven r).toNat : ℤ) : ℝ) := by
      rw [Int.toNat_of_nonneg g0]
    rw [this]; rfl
  unfold scale
  split_ifs with h
  · subst h
    have : b = 0 := le_antisymm ha hb
    subst this
    exact ⟨0, le_refl _, by norm_num, by simp [Ideal.div]⟩
  rw [k15_eq, Ideal.div_coe (by norm_num)]
  induction a with
  | bot =>
    refine ⟨0, le_refl _, by norm_num, ?_⟩
    have hs : (b - ⊥) * ((1 / 15 : ℝ) : EReal) = ⊤ := by
      rw [EReal.sub_bot (by intro e; rw [e] at hb; simp at hb), EReal.top_mul_coe_of_pos (by norm_num)]
    rw [hs, Ideal.div, if_neg (by simp)]
    simp
  | top => simp at ha
  | coe a =>
    induction b with
    | bot => simp at hb
    | top =>
      refine ⟨0, le_refl _, by norm_num, ?_⟩
      rw [EReal.top_sub_coe, EReal.top_mul_coe_of_pos (by norm_num), Ideal.div, if_neg (by simp)]
      simp
    | coe b =>
      have ha' : a ≤ 0 := by exact_mod_cast ha
      have hb' : 0 ≤ b := by exact_mod_cast hb
      have hne : b ≠ a := fun e => h (by rw [e])
      have hpos : 0 < b - a := by
        rcases lt_or_eq_of_le (ha'.trans hb') with h | h
        · linarith
        · exact absurd h.symm hne
      refine ⟨-a * (1 / ((b - a) * (1 / 15))), ?_, ?_, ?_⟩
      · exact mul_nonneg (by linarith) (by positivity)
      · rw [mul_one_div, div_le_iff₀ (by positivity)]; linarith
      · rw [← EReal.coe_sub, ← EReal.coe_mul, Ideal.div_coe (by positivity), ← EReal.coe_neg, ← EReal.coe_mul]

/-- A code is a whole number from 0 to 15. -/
theorem code_nat (v s : EReal) (n : ℕ) : ∃ k : ℕ, k ≤ 15 ∧ code v s ((n : ℝ) : EReal) = ((k : ℝ) : EReal) := by
  unfold code
  rw [k15_eq]
  generalize Ideal.div v s = q
  induction q with
  | bot =>
    refine ⟨0, by norm_num, ?_⟩
    show min _ (max 0 ((⊥ : EReal) + _)) = _
    rw [EReal.bot_add, max_eq_left bot_le, min_eq_right (by exact_mod_cast (by norm_num : (0 : ℝ) ≤ 15))]
    simp
  | top =>
    refine ⟨15, le_refl _, ?_⟩
    show min _ (max 0 ((⊤ : EReal) + _)) = _
    rw [EReal.top_add_coe]; simp
  | coe r =>
    refine ⟨(min 15 (max 0 (Ideal.roundHalfEven r + n))).toNat, by omega, ?_⟩
    show min _ (max 0 (((Ideal.roundHalfEven r : ℝ) : EReal) + _)) = _
    have e : ((min 15 (max 0 (Ideal.roundHalfEven r + n))).toNat : ℝ)
        = min 15 (max 0 ((Ideal.roundHalfEven r : ℝ) + n)) := by
      have h : (((min 15 (max 0 (Ideal.roundHalfEven r + n))).toNat : ℤ) : ℝ) = ((min 15 (max 0 (Ideal.roundHalfEven r + n)) : ℤ) : ℝ) := by
        rw [Int.toNat_of_nonneg (by omega)]
      simpa only [Int.cast_min, Int.cast_max, Int.cast_add, Int.cast_natCast, Int.cast_ofNat, Int.cast_zero] using h
    rw [e, ← EReal.coe_add, ← EReal.coe_zero, ← EReal.coe_strictMono.monotone.map_max,
      ← EReal.coe_strictMono.monotone.map_min]

theorem zp_nat (f : Fin 128 → EReal) : ∃ n : ℕ, n ≤ 15 ∧ zp f = ((n : ℝ) : EReal) := zero_nat (lo_le f) (hi_ge f)

theorem cd_nat (f : Fin 128 → EReal) (l : Fin 128) : ∃ n : ℕ, n ≤ 15 ∧ cd f l = ((n : ℝ) : EReal) := by
  obtain ⟨n, _, h⟩ := zp_nat f
  unfold cd
  rw [h]
  exact code_nat _ _ n

/-- A whole number from 0 to 15 converted to an integer word. -/
theorem fptosi_nat {n : ℕ} (h : n ≤ 15) : Ideal.fptosi 32 ((n : ℝ) : EReal) = BitVec.ofNat 32 n := by
  unfold Ideal.fptosi
  rw [Ideal.toIntClamped_coe, if_pos (by positivity), Int.floor_natCast]
  rw [show max (-((2 ^ (32 - 1) : Nat) : Int)) (min (((2 ^ (32 - 1) : Nat) : Int) - 1) (n : Int)) = (n : Int) by
    norm_num; omega]
  rfl

/-- Reading two such numbers back from their bytes, their difference is the difference of the numbers. -/
theorem sub_bytes (f : Fin 128 → EReal) (l : Fin 128) :
    (((BitVec.setWidth 32 (BitVec.setWidth 8 (Ideal.fptosi 32 (cd f l)))
      - BitVec.setWidth 32 (BitVec.setWidth 8 (Ideal.fptosi 32 (zp f)))).toInt : ℝ) : EReal) = cd f l - zp f := by
  obtain ⟨n, hn, e⟩ := zp_nat f
  obtain ⟨k, hk, d⟩ := cd_nat f l
  rw [e, d, fptosi_nat hn, fptosi_nat hk]
  have : ∀ k ≤ 15, ∀ n ≤ 15, (BitVec.setWidth 32 (BitVec.setWidth 8 (BitVec.ofNat 32 k))
      - BitVec.setWidth 32 (BitVec.setWidth 8 (BitVec.ofNat 32 n))).toInt = (k : ℤ) - (n : ℤ) := by decide
  rw [this k hk n hn, ← EReal.coe_sub]
  push_cast
  rfl

/-- A code survives its byte. -/
theorem code_byte (f : Fin 128 → EReal) (l : Fin 128) :
    BitVec.setWidth 32 (BitVec.setWidth 8 (Ideal.fptosi 32 (cd f l))) = Ideal.fptosi 32 (cd f l) := by
  obtain ⟨k, hk, d⟩ := cd_nat f l
  rw [d, fptosi_nat hk]
  have : ∀ k ≤ 15, BitVec.setWidth 32 (BitVec.setWidth 8 (BitVec.ofNat 32 k)) = BitVec.ofNat 32 k := by decide
  exact this k hk

end Cert.Group

end
-- ==== Proof.KerRead.lean ====
/-
  One block of activations in the kernel over the extended reals: its rows' scales, zero points and codes are those of
  the row as one group of 128.
-/
module

public import proofs.«01_k».proof.Proof.Lanes
public import proofs.«01_k».proof.Proof.Scalar
public import Idealize.ShloMosaic.Lib.Pointwise

@[expose] public section

set_option maxRecDepth 16384

noncomputable section

namespace Cert.KernelIdeal.Quant

open Cert.KernelIdeal Cert.KernelIdeal.Gen Idealize.ShloMosaic

variable (X : Vec Ideal S128x128 .bf16)

/-- A row of a block. -/
def row (i : Fin 128) : Fin 128 → EReal := fun l => X (ValueIdx.ix2 i l)

theorem gx_apply (i l : Fin 128) : gx X (ValueIdx.ix2 i l) = row X i l := by
  unfold gx
  rw [shapeCast_self]
  rfl

theorem lo_gen (v : FVec Ideal S128x128 .f32) (i : Fin 128) :
    minimumf (shapeCast S128x1 (multiReduction .minimumf [1] S128 v 0x7F800000#32 reduces_S128x128_S128 (.inl rfl) rfl)
      shapeCasts_S128_S128x1) (broadcast S128x1 c0) (ix2 i 0) = Group.lo fun l => v (ix2 i l) := by
  pointwise
  rfl

theorem hi_gen (v : FVec Ideal S128x128 .f32) (i : Fin 128) :
    maximumf (shapeCast S128x1 (multiReduction .maximumf [1] S128 v 0xFF800000#32 reduces_S128x128_S128 (.inl rfl) rfl)
      shapeCasts_S128_S128x1) (broadcast S128x1 c0) (ix2 i 0) = Group.hi fun l => v (ix2 i l) := by
  pointwise
  rfl

theorem sc_gen (a b : FVec Ideal S128x1 .f32) (j : S128x1.Idx) :
    select (cmpf .oeq b a) (broadcast S128x1 c1) (divf (subf b a) (broadcast S128x1 c15)) j = Group.scale (a j) (b j) := by
  show Scalar.select (BitVec.ofBool (decide (b j = a j))) (Ideal.ofBits .f32 0x3F800000#32) (Ideal.div (b j - a j) Group.k15) = _
  rw [Ideal.ofBits_one_f32]
  unfold Scalar.select Group.scale
  by_cases h : b j = a j <;> simp [h]

theorem zp_gen (a s : FVec Ideal S128x1 .f32) (j : S128x1.Idx) :
    roundeven (divf (subf (broadcast S128x1 c0) a) s) j = Group.zero (a j) (s j) := by
  show Ideal.liftRound Ideal.roundHalfEven (Ideal.div (Ideal.ofBits .f32 0x00000000#32 - a j) (s j)) = _
  rw [Ideal.ofBits_zero_f32, zero_sub]
  rfl

theorem cd_gen (v s z : FVec Ideal S128x128 .f32) (j : S128x128.Idx) :
    minimumf (broadcast S128x128 c15) (maximumf (broadcast S128x128 c0) (addf (roundeven (divf v s)) z)) j
      = Group.code (v j) (s j) (z j) := by
  show min Group.k15 (max (Ideal.ofBits .f32 0x00000000#32) (Ideal.liftRound Ideal.roundHalfEven (Ideal.div (v j) (s j)) + z j)) = _
  rw [Ideal.ofBits_zero_f32]
  rfl

theorem glo_apply (i : Fin 128) : glo X (ValueIdx.ix2 i 0) = Group.lo (row X i) := by
  unfold glo
  exact (lo_gen (gx X) i).trans (congrArg Group.lo (funext (gx_apply X i)))

theorem ghi_apply (i : Fin 128) : ghi X (ValueIdx.ix2 i 0) = Group.hi (row X i) := by
  unfold ghi
  exact (hi_gen (gx X) i).trans (congrArg Group.hi (funext (gx_apply X i)))

/-- A row's scale. -/
theorem gs_apply (i : Fin 128) : gs X (ValueIdx.ix2 i 0) = Group.sc (row X i) := by
  unfold gs
  rw [sc_gen, glo_apply, ghi_apply]
  rfl

/-- A row's zero point. -/
theorem gz_apply (i : Fin 128) : gz X (ValueIdx.ix2 i 0) = Group.zp (row X i) := by
  unfold gz
  rw [zp_gen, glo_apply, gs_apply]
  rfl

/-- A row's codes. -/
theorem gcode_apply (i l : Fin 128) : gcode X (ValueIdx.ix2 i l) = Group.cd (row X i) l := by
  unfold gcode
  rw [cd_gen, gx_apply, col_apply, col_apply, gs_apply, gz_apply]
  rfl

end Cert.KernelIdeal.Quant

end
-- ==== Proof.Stage.lean ====
/-
  The reference's stages by name: scale, zero point and codes of each group of 128 activations, the codes packed two to a
  byte, the dequantised activations and weights, and their product; and the reference's run with its results so named.
-/
module

public import proofs.«01_k».proof.Proof.Gen.ReferenceIdeal.Run
public import Idealize.ShloMosaic.Lib.Claim
public import Idealize.ShloMosaic.Adequacy

@[expose] public section

set_option maxRecDepth 16384

noncomputable section

namespace Cert.ReferenceIdeal.Stage

open Cert.ReferenceIdeal Cert.ReferenceIdeal.Gen Idealize.ShloMosaic Idealize.ShloMosaic.TcCoe Idealize.SL.Sem

variable {F : FTy → Type} [FloatOps F]

/-- The activations, widened, in groups of 128. -/
def X4 (x : FVec F S1x768x2048 .bf16) : FVec F S1x768x16x128 .f32 :=
  shapeCast S1x768x16x128 (extf .f32 x bitsLt_bf16_f32) shapeCasts_S1x768x2048_S1x768x16x128

/-- Each group's least entry, capped at zero. -/
def LO (x : FVec F S1x768x2048 .bf16) : FVec F S1x768x16 .f32 :=
  minimumf (Host.reduce FloatOps.minimumf (X4 x) (constant S_ .f32 0x7F800000#32) reducesTo_S1x768x16x128_S1x768x16_d3 h_S_)
    (broadcastInDim S1x768x16 ![] bcast_S_S1x768x16 (constant S_ .f32 0x00000000#32))

/-- Each group's greatest entry, floored at zero. -/
def HI (x : FVec F S1x768x2048 .bf16) : FVec F S1x768x16 .f32 :=
  maximumf (Host.reduce FloatOps.maximumf (X4 x) (constant S_ .f32 0xFF800000#32) reducesTo_S1x768x16x128_S1x768x16_d3 h_S_)
    (broadcastInDim S1x768x16 ![] bcast_S_S1x768x16 (constant S_ .f32 0x00000000#32))

/-- Each group's scale. -/
def SC (x : FVec F S1x768x2048 .bf16) : FVec F S1x768x16 .f32 :=
  select (cmpf .oeq (HI x) (LO x)) (broadcastInDim S1x768x16 ![] bcast_S_S1x768x16 (id (constant S_ .f32 0x3F800000#32)))
    (Host.divf (subf (HI x) (LO x)) (broadcastInDim S1x768x16 ![] bcast_S_S1x768x16 (constant S_ .f32 0x41700000#32)))

/-- Each group's zero point. -/
def ZP (x : FVec F S1x768x2048 .bf16) : FVec F S1x768x16 .f32 := Host.roundeven (Host.divf (Host.negf (LO x)) (SC x))

/-- A group's value on each of its 128 entries. -/
def spread {α : Type} (v : S1x768x16.Idx → α) : S1x768x16x128.Idx → α :=
  broadcastInDim S1x768x16x128 ![0, 1, 2, 3] bcast_S1x768x16x1_S1x768x16x128_0_1_2_3
    (broadcastInDim S1x768x16x1 ![0, 1, 2] bcast_S1x768x16_S1x768x16x1_0_1_2 v)

/-- The codes. -/
def CD (x : FVec F S1x768x2048 .bf16) : FVec F S1x768x16x128 .f32 :=
  minimumf (broadcastInDim S1x768x16x128 ![] bcast_S_S1x768x16x128 (id (constant S_ .f32 0x41700000#32)))
    (maximumf (broadcastInDim S1x768x16x128 ![] bcast_S_S1x768x16x128 (id (constant S_ .f32 0x00000000#32)))
      (addf (Host.roundeven (Host.divf (X4 x) (spread (SC x)))) (spread (ZP x))))

/-- The codes as bytes. -/
def CB (x : FVec F S1x768x2048 .bf16) : IVec S1x768x16x128 8 := trunci 8 (fptosi 32 (CD x)) natLt_8_32

/-- The zero points as bytes. -/
def ZB (x : FVec F S1x768x2048 .bf16) : IVec S1x768x16 8 := trunci 8 (fptosi 32 (ZP x)) natLt_8_32

/-- The codes in pairs. -/
def PR (x : FVec F S1x768x2048 .bf16) : IVec S1x768x1024x2 32 :=
  shapeCast S1x768x1024x2 (extui 32 (CB x) natLt_8_32) shapeCasts_S1x768x16x128_S1x768x1024x2

/-- The codes packed, the first of a pair in the low half. -/
def PK (x : FVec F S1x768x2048 .bf16) : IVec S1x768x1024 8 :=
  trunci 8 (ori
    (shapeCast S1x768x1024 (extractStridedSlice S1x768x1024x1 ![0, 0, 0, 0] (PR x) slices_S1x768x1024x2_S1x768x1024x1_0_0_0_0)
      shapeCasts_S1x768x1024x1_S1x768x1024)
    (Host.shli
      (shapeCast S1x768x1024 (extractStridedSlice S1x768x1024x1 ![0, 0, 0, 1] (PR x) slices_S1x768x1024x2_S1x768x1024x1_0_0_0_1)
        shapeCasts_S1x768x1024x1_S1x768x1024)
      (broadcastInDim S1x768x1024 ![] bcast_S_S1x768x1024 (constantI S_ 32 4#32)))) natLt_8_32

/-- The dequantised activations, in groups. -/
def AD (x : FVec F S1x768x2048 .bf16) : FVec F S1x768x16x128 .bf16 :=
  mulf (sitofp .bf16 (subi (extui 32 (CB x) natLt_8_32) (spread (extui 32 (ZB x) natLt_8_32))))
    (spread (truncf .bf16 (SC x) bitsLt_bf16_f32))

/-- The dequantised activations, the first of every pair and then the second of every pair. -/
def AT (x : FVec F S1x768x2048 .bf16) : FVec F S1x768x2x1024 .bf16 :=
  transpose S1x768x2x1024 [0, 1, 3, 2] (shapeCast S1x768x1024x2 (AD x) shapeCasts_S1x768x16x128_S1x768x1024x2)
    transposes_S1x768x1024x2_S1x768x2x1024_0_1_3_2

/-- The signed weights, the low halves of a row's bytes and then the high halves. -/
def WN (wp : IVec S5632x1024 8) : IVec S5632x2x1024 32 :=
  Host.shrsi
    (Host.shli
      (broadcastInDim S5632x2x1024 ![0, 1, 2] bcast_S5632x1x1024_S5632x2x1024_0_1_2
        (broadcastInDim S5632x1x1024 ![0, 2] bcast_S5632x1024_S5632x1x1024_0_2 (extui 32 wp natLt_8_32)))
      (broadcastInDim S5632x2x1024 ![0, 1, 2] bcast_S1x2x1_S5632x2x1024_0_1_2
        (broadcastInDim S1x2x1 ![1] bcast_S2_S1x2x1_1 (fun i => lit0 (S2.rowMajor i)))))
    (broadcastInDim S5632x2x1024 ![] bcast_S_S5632x2x1024 (constantI S_ 32 28#32))

/-- The dequantised weights. -/
def WT (wp : IVec S5632x1024 8) (ws : FVec F S5632x16 .f32) : FVec F S5632x2x1024 .bf16 :=
  shapeCast S5632x2x1024
    (mulf (shapeCast S5632x2x16x64 (sitofp .bf16 (WN wp)) shapeCasts_S5632x2x1024_S5632x2x16x64)
      (broadcastInDim S5632x2x16x64 ![0, 1, 2, 3] bcast_S5632x1x16x1_S5632x2x16x64_0_1_2_3
        (broadcastInDim S5632x1x16x1 ![0, 2] bcast_S5632x16_S5632x1x16x1_0_2 (truncf .bf16 ws bitsLt_bf16_f32))))
    shapeCasts_S5632x2x16x64_S5632x2x1024

/-- The product. -/
def YO (x : FVec F S1x768x2048 .bf16) (wp : IVec S5632x1024 8) (ws : FVec F S5632x16 .f32) : FVec F S1x768x5632 .bf16 :=
  truncf .bf16 (Host.dotGeneral dot_S1x768x2x1024_S5632x2x1024_S1x768x5632_23_12_01_0_n_n none (AT x) (WT wp ws)) bitsLt_bf16_f32

/-- The four results. -/
def resY (x : FVec F S1x768x2048 .bf16) (wp : IVec S5632x1024 8) (ws : FVec F S5632x16 .f32) : FVec F S768x5632 .bf16 :=
  shapeCast S768x5632 (YO x wp ws) shapeCasts_S1x768x5632_S768x5632
def resC (x : FVec F S1x768x2048 .bf16) : IVec S768x1024 8 := shapeCast S768x1024 (PK x) shapeCasts_S1x768x1024_S768x1024
def resS (x : FVec F S1x768x2048 .bf16) : FVec F S768x16 .f32 := shapeCast S768x16 (SC x) shapeCasts_S1x768x16_S768x16
def resZ (x : FVec F S1x768x2048 .bf16) : IVec S768x16 8 := shapeCast S768x16 (ZB x) shapeCasts_S1x768x16_S768x16

variable (m : (ℓ : Loc nD τ sig) → Buf (Elt F) ℓ) (ρ : Dev nD → PrngReg)

/-- The product the run leaves, by its stages. -/
theorem res_y (c : Dev nD) : Value.res_main_v67 m c
    = resY (F := F) (m ((c : Thread nD τ).loc main_arg0)) (m ((c : Thread nD τ).loc main_arg1)) (m ((c : Thread nD τ).loc main_arg2)) := by
  unfold Value.res_main_v67 resY YO AT AD WT WN
  unfold CB ZB
  unfold CD ZP spread
  unfold SC
  unfold HI LO X4
  rfl

/-- The packed codes the run leaves, by their stages. -/
theorem res_c (c : Dev nD) : Value.res_main_v68 m c = resC (F := F) (m ((c : Thread nD τ).loc main_arg0)) := by
  unfold Value.res_main_v68 resC PK PR
  unfold CB
  unfold CD ZP spread
  unfold SC
  unfold HI LO X4
  rfl

/-- The run: the four results by their stages, and the arguments unchanged. -/
theorem run : θ_run (defs (F := F)) (onTc (τ := τ) (main (F := F))) ⟨m, fun _ => 0, ρ⟩ (fun r => ∀ c : Dev nD,
    r.2.mem ((c.tc : Thread nD τ).loc main_v67) = resY (F := F) (m ((c : Thread nD τ).loc main_arg0))
        (m ((c : Thread nD τ).loc main_arg1)) (m ((c : Thread nD τ).loc main_arg2))
    ∧ r.2.mem ((c.tc : Thread nD τ).loc main_v68) = resC (F := F) (m ((c : Thread nD τ).loc main_arg0))
    ∧ r.2.mem ((c.tc : Thread nD τ).loc main_v69) = resS (F := F) (m ((c : Thread nD τ).loc main_arg0))
    ∧ r.2.mem ((c.tc : Thread nD τ).loc main_v70) = resZ (F := F) (m ((c : Thread nD τ).loc main_arg0))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  refine (θ_run _ _ _).mono (fun r h c => ?_) (Value.run (F := F) m ρ)
  obtain ⟨hy, hc, hs, hz, ha⟩ := h c
  exact ⟨hy.trans (res_y m c), hc.trans (res_c m c), hs, hz, ha⟩

/-- The frame: the arguments end unchanged and every semaphore is at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2.2.2, sem_eq_zero_of_no_sems (by decide) r.2⟩) (run m ρ)

end Cert.ReferenceIdeal.Stage

end
-- ==== Proof.RefRead.lean ====
/-
  The reference's four results over the extended reals, entry by entry, through the scale, zero point and codes of each
  group of 128 activations.
-/
module

public import proofs.«01_k».proof.Proof.Stage
public import proofs.«01_k».proof.Proof.Scalar
public import Idealize.ShloMosaic.Lib.Pointwise

@[expose] public section

set_option maxRecDepth 16384

noncomputable section

namespace Cert.ReferenceIdeal.Stage

open Cert.ReferenceIdeal Cert.ReferenceIdeal.Gen Idealize.ShloMosaic

variable (x : FVec Ideal S1x768x2048 .bf16)

/-- The group `g` of row `r`: its 128 activations. -/
def grp (r : Fin 768) (g : Fin 16) : Fin 128 → EReal := fun l => x (ix3 0 r ⟨g.val * 128 + l.val, by omega⟩)

theorem X4_apply (r : Fin 768) (g : Fin 16) (l : Fin 128) : X4 x (ix4 0 r g l) = grp x r g l := by
  unfold grp
  pointwise [X4]

/-! ## Scale and zero point -/

theorem lo_gen (v : FVec Ideal S1x768x16x128 .f32) (r : Fin 768) (g : Fin 16) :
    minimumf (Host.reduce FloatOps.minimumf v (constant S_ .f32 0x7F800000#32) reducesTo_S1x768x16x128_S1x768x16_d3 h_S_)
      (broadcastInDim S1x768x16 ![] bcast_S_S1x768x16 (constant S_ .f32 0x00000000#32)) (ix3 0 r g)
      = Group.lo fun l => v (ix4 0 r g l) := by
  rw [minimumf_apply, Host.reduce_eq_fold, Shape.ReducesTo.fold_fiber_r4_a3]
  show min (Finset.univ.fold min (Ideal.ofBits .f32 0x7F800000#32) fun l => v (ix4 0 r g l)) (Ideal.ofBits .f32 0x00000000#32) = _
  rw [Ideal.ofBits_zero_f32]
  rfl

theorem hi_gen (v : FVec Ideal S1x768x16x128 .f32) (r : Fin 768) (g : Fin 16) :
    maximumf (Host.reduce FloatOps.maximumf v (constant S_ .f32 0xFF800000#32) reducesTo_S1x768x16x128_S1x768x16_d3 h_S_)
      (broadcastInDim S1x768x16 ![] bcast_S_S1x768x16 (constant S_ .f32 0x00000000#32)) (ix3 0 r g)
      = Group.hi fun l => v (ix4 0 r g l) := by
  rw [maximumf_apply, Host.reduce_eq_fold, Shape.ReducesTo.fold_fiber_r4_a3]
  show max (Finset.univ.fold max (Ideal.ofBits .f32 0xFF800000#32) fun l => v (ix4 0 r g l)) (Ideal.ofBits .f32 0x00000000#32) = _
  rw [Ideal.ofBits_zero_f32]
  rfl

theorem LO_apply (r : Fin 768) (g : Fin 16) : LO x (ix3 0 r g) = Group.lo (grp x r g) := by
  unfold LO
  rw [lo_gen]
  exact congrArg Group.lo (funext (X4_apply x r g))

theorem HI_apply (r : Fin 768) (g : Fin 16) : HI x (ix3 0 r g) = Group.hi (grp x r g) := by
  unfold HI
  rw [hi_gen]
  exact congrArg Group.hi (funext (X4_apply x r g))

theorem sc_gen (a b : FVec Ideal S1x768x16 .f32) (j : S1x768x16.Idx) :
    select (cmpf .oeq b a) (broadcastInDim S1x768x16 ![] bcast_S_S1x768x16 (id (constant S_ .f32 0x3F800000#32)))
      (Host.divf (subf b a) (broadcastInDim S1x768x16 ![] bcast_S_S1x768x16 (constant S_ .f32 0x41700000#32))) j
      = Group.scale (a j) (b j) := by
  show Scalar.select (BitVec.ofBool (decide (b j = a j))) (Ideal.ofBits .f32 0x3F800000#32) (Ideal.div (b j - a j) Group.k15) = _
  rw [Ideal.ofBits_one_f32]
  unfold Scalar.select Group.scale
  by_cases h : b j = a j <;> simp [h]

theorem SC_apply (r : Fin 768) (g : Fin 16) : SC x (ix3 0 r g) = Group.sc (grp x r g) := by
  unfold SC
  rw [sc_gen, LO_apply, HI_apply]
  rfl

theorem zp_gen (a s : FVec Ideal S1x768x16 .f32) (j : S1x768x16.Idx) :
    Host.roundeven (Host.divf (Host.negf a) s) j = Group.zero (a j) (s j) := rfl

theorem ZP_apply (r : Fin 768) (g : Fin 16) : ZP x (ix3 0 r g) = Group.zp (grp x r g) := by
  unfold ZP
  rw [zp_gen, LO_apply, SC_apply]
  rfl

/-! ## Codes -/

theorem spread_apply {α : Type} (v : S1x768x16.Idx → α) (r : Fin 768) (g : Fin 16) (l : Fin 128) :
    spread v (ix4 0 r g l) = v (ix3 0 r g) := by
  unfold spread
  pointwise

theorem cd_gen (v s z : FVec Ideal S1x768x16x128 .f32) (j : S1x768x16x128.Idx) :
    minimumf (broadcastInDim S1x768x16x128 ![] bcast_S_S1x768x16x128 (id (constant S_ .f32 0x41700000#32)))
      (maximumf (broadcastInDim S1x768x16x128 ![] bcast_S_S1x768x16x128 (id (constant S_ .f32 0x00000000#32)))
        (addf (Host.roundeven (Host.divf v s)) z)) j = Group.code (v j) (s j) (z j) := by
  show min Group.k15 (max (Ideal.ofBits .f32 0x00000000#32) (Ideal.liftRound Ideal.roundHalfEven (Ideal.div (v j) (s j)) + z j)) = _
  rw [Ideal.ofBits_zero_f32]
  rfl

theorem CD_apply (r : Fin 768) (g : Fin 16) (l : Fin 128) : CD x (ix4 0 r g l) = Group.cd (grp x r g) l := by
  unfold CD
  rw [cd_gen, spread_apply, spread_apply, X4_apply, SC_apply, ZP_apply]
  rfl

theorem byte_gen {s : Shape} (v : FVec Ideal s .f32) (j : s.Idx) :
    trunci 8 (fptosi 32 v) natLt_8_32 j = BitVec.setWidth 8 (Ideal.fptosi 32 (v j)) := rfl

theorem CB_apply (r : Fin 768) (g : Fin 16) (l : Fin 128) :
    CB x (ix4 0 r g l) = BitVec.setWidth 8 (Ideal.fptosi 32 (Group.cd (grp x r g) l)) := by
  unfold CB
  rw [byte_gen, CD_apply]

theorem ZB_apply (r : Fin 768) (g : Fin 16) :
    ZB x (ix3 0 r g) = BitVec.setWidth 8 (Ideal.fptosi 32 (Group.zp (grp x r g))) := by
  unfold ZB
  rw [byte_gen, ZP_apply]

/-! ## Dequantised activations -/

theorem ad_gen (a : IVec S1x768x16x128 8) (z : IVec S1x768x16 8) (s : FVec Ideal S1x768x16 .f32) (r : Fin 768) (g : Fin 16)
    (l : Fin 128) :
    mulf (sitofp (F := Ideal) .bf16 (subi (extui 32 a natLt_8_32) (spread (extui 32 z natLt_8_32))))
      (spread (truncf .bf16 s bitsLt_bf16_f32)) (ix4 0 r g l)
    = (((BitVec.setWidth 32 (a (ix4 0 r g l)) - BitVec.setWidth 32 (z (ix3 0 r g))).toInt : ℝ) : EReal) * s (ix3 0 r g) := by
  rw [mulf_apply, spread_apply]
  show (((BitVec.setWidth 32 (a (ix4 0 r g l)) - spread (extui 32 z natLt_8_32) (ix4 0 r g l)).toInt : ℝ) : EReal) * _ = _
  rw [spread_apply]
  rfl

theorem AD_apply (r : Fin 768) (g : Fin 16) (l : Fin 128) :
    AD x (ix4 0 r g l) = (Group.cd (grp x r g) l - Group.zp (grp x r g)) * Group.sc (grp x r g) := by
  unfold AD
  rw [ad_gen, CB_apply, ZB_apply, SC_apply, Group.sub_bytes]

theorem AT_apply (r : Fin 768) (j : Fin 2) (k : Fin 1024) :
    AT x (ix4 0 r j k) = AD x (ix4 0 r ⟨k.val / 64, by omega⟩ ⟨k.val % 64 * 2 + j.val, by omega⟩) := by
  pointwise [AT]

/-! ## Dequantised weights -/

theorem WN_apply (wp : IVec S5632x1024 8) (n : Fin 5632) (j : Fin 2) (k : Fin 1024) :
    WN wp (ix3 n j k) = IntOp.shrsi .host (IntOp.shli .host (BitVec.setWidth 32 (wp (ix2 n k))) (lit0 (S2.rowMajor (ix1 j)))) 28#32 := by
  pointwise [WN]

theorem WT_apply (wp : IVec S5632x1024 8) (ws : FVec Ideal S5632x16 .f32) (n : Fin 5632) (j : Fin 2) (k : Fin 1024) :
    WT wp ws (ix3 n j k) = (((WN wp (ix3 n j k)).toInt : ℝ) : EReal) * ws (ix2 n ⟨k.val / 64, by omega⟩) := by
  pointwise [WT]
  rfl

/-! ## The four results -/

theorem resS_apply (r : Fin 768) (g : Fin 16) : resS x (ix2 r g) = Group.sc (grp x r g) := by
  rw [← SC_apply]
  pointwise [resS]

theorem resZ_apply (r : Fin 768) (g : Fin 16) :
    resZ x (ix2 r g) = BitVec.setWidth 8 (Ideal.fptosi 32 (Group.zp (grp x r g))) := by
  rw [← ZB_apply]
  pointwise [resZ]

theorem resC_apply (r : Fin 768) (k : Fin 1024) :
    resC x (ix2 r k) = BitVec.setWidth 8 (IntOp.ori
      (Ideal.fptosi 32 (Group.cd (grp x r ⟨k.val / 64, by omega⟩) ⟨k.val % 64 * 2, by omega⟩))
      (IntOp.shli .host (Ideal.fptosi 32 (Group.cd (grp x r ⟨k.val / 64, by omega⟩) ⟨k.val % 64 * 2 + 1, by omega⟩)) 4#32)) := by
  rw [← Group.code_byte, ← Group.code_byte (grp x r ⟨k.val / 64, by omega⟩) ⟨k.val % 64 * 2 + 1, by omega⟩, ← CB_apply, ← CB_apply]
  pointwise [resC, PK, PR]

theorem resY_apply (wp : IVec S5632x1024 8) (ws : FVec Ideal S5632x16 .f32) (r : Fin 768) (n : Fin 5632) :
    resY x wp ws (ix2 r n) = ∑ j : Fin 2, ∑ k : Fin 1024, AT x (ix4 0 r j k) * WT wp ws (ix3 n j k) := by
  pointwise [resY, YO]

end Cert.ReferenceIdeal.Stage

end
-- ==== Proof.Codes.lean ====
/-
  The kernel's scales, zero points and packed codes are the reference's: each block's row is a group of 128
  activations, and each packed byte holds the codes of the same two neighbouring activations.
-/
module

public import proofs.«01_k».proof.Proof.Final
public import proofs.«01_k».proof.Proof.KerRead
public import proofs.«01_k».proof.Proof.RefRead

@[expose] public section

set_option maxRecDepth 16384

noncomputable section

namespace Cert.Match

open Idealize.ShloMosaic Cert.KernelIdeal Cert.KernelIdeal.Quant
open Cert.KernelIdeal.Run (rowsOf)
open Cert.ReferenceIdeal.Stage (grp resY resC resS resZ)

variable (x : FVec Ideal S1x768x2048 .bf16)

/-- The activations as a matrix. -/
theorem rows_apply (r : Fin 768) (c : Fin 2048) : rowsOf (F := Ideal) x (ix2 r c) = x (ix3 0 r c) := by
  pointwise [rowsOf]

/-- A block's row is a group of the activations. -/
theorem row_blk (r : Fin 768) (g : Fin 16) : row (blk (rowsOf (F := Ideal) x) (rowBlk r) g) (rowIn r) = grp x r g := by
  funext l
  refine (rows_apply x _ _).trans (congrArg x ?_)
  refine congrArg₂ (fun a b => ix3 0 a b) (Fin.ext ?_) (Fin.ext ?_)
  · show 128 * (r.val / 128) + r.val % 128 = r.val
    omega
  · show 128 * g.val + l.val = g.val * 128 + l.val
    omega

/-- The scales agree. -/
theorem scales_eq : SV (F := Ideal) (rowsOf (F := Ideal) x) = resS x := by
  funext y
  obtain ⟨r, g, rfl⟩ : ∃ (r : Fin 768) (g : Fin 16), y = ix2 r g := ⟨y 0, y 1, by pointwise⟩
  refine (gs_apply _ _).trans (Eq.trans ?_ (Cert.ReferenceIdeal.Stage.resS_apply x r g).symm)
  exact congrArg Group.sc (row_blk x r g)

/-- The zero points agree. -/
theorem zeros_eq : ZV (F := Ideal) (rowsOf (F := Ideal) x) = resZ x := by
  funext y
  obtain ⟨r, g, rfl⟩ : ∃ (r : Fin 768) (g : Fin 16), y = ix2 r g := ⟨y 0, y 1, by pointwise⟩
  refine Eq.trans (congrArg (fun t => BitVec.setWidth 8 (Ideal.fptosi 32 t)) ?_) (Cert.ReferenceIdeal.Stage.resZ_apply x r g).symm
  exact (gz_apply _ _).trans (congrArg Group.zp (row_blk x r g))

/-- The even-numbered code of pair `c` of a row. -/
theorem even_apply (r : Fin 768) (c : Fin 1024) (G H : Fin 16) (L : Fin 128) (hG : G.val = 2 * (c.val / 128))
    (hH : H.val = 2 * (c.val / 128) + 1) (hL : L.val = c.val % 128) :
    gEven (blk (rowsOf (F := Ideal) x) (rowBlk r) G) (blk (rowsOf (F := Ideal) x) (rowBlk r) H) (ValueIdx.ix2 (rowIn r) L)
      = Group.cd (grp x r ⟨c.val / 64, by omega⟩) ⟨c.val % 64 * 2, by omega⟩ := by
  refine (gEven_apply _ _ _).trans ?_
  have e : (Fin.ofNat 128 (2 * L.val)) = (⟨c.val % 64 * 2, by omega⟩ : Fin 128) := Fin.ext (by
    rw [Fin.val_ofNat]; show _ = c.val % 64 * 2; omega)
  show (if L.val < 64 then gcode _ (ValueIdx.ix2 (rowIn r) (Fin.ofNat 128 (2 * L.val)))
    else gcode _ (ValueIdx.ix2 (rowIn r) (Fin.ofNat 128 (2 * L.val)))) = _
  rw [e]
  split
  · rw [gcode_apply, row_blk, show G = ⟨c.val / 64, by omega⟩ from Fin.ext (by show G.val = c.val / 64; omega)]
  · rw [gcode_apply, row_blk, show H = ⟨c.val / 64, by omega⟩ from Fin.ext (by show H.val = c.val / 64; omega)]

/-- The odd-numbered code of pair `c` of a row. -/
theorem odd_apply (r : Fin 768) (c : Fin 1024) (G H : Fin 16) (L : Fin 128) (hG : G.val = 2 * (c.val / 128))
    (hH : H.val = 2 * (c.val / 128) + 1) (hL : L.val = c.val % 128) :
    gOdd (blk (rowsOf (F := Ideal) x) (rowBlk r) G) (blk (rowsOf (F := Ideal) x) (rowBlk r) H) (ValueIdx.ix2 (rowIn r) L)
      = Group.cd (grp x r ⟨c.val / 64, by omega⟩) ⟨c.val % 64 * 2 + 1, by omega⟩ := by
  refine (gOdd_apply _ _ _).trans ?_
  have e : (Fin.ofNat 128 (2 * L.val + 1)) = (⟨c.val % 64 * 2 + 1, by omega⟩ : Fin 128) := Fin.ext (by
    rw [Fin.val_ofNat]; show _ = c.val % 64 * 2 + 1; omega)
  show (if L.val < 64 then gcode _ (ValueIdx.ix2 (rowIn r) (Fin.ofNat 128 (2 * L.val + 1)))
    else gcode _ (ValueIdx.ix2 (rowIn r) (Fin.ofNat 128 (2 * L.val + 1)))) = _
  rw [e]
  split
  · rw [gcode_apply, row_blk, show G = ⟨c.val / 64, by omega⟩ from Fin.ext (by show G.val = c.val / 64; omega)]
  · rw [gcode_apply, row_blk, show H = ⟨c.val / 64, by omega⟩ from Fin.ext (by show H.val = c.val / 64; omega)]

/-- Packing two codes, in the kernel and in the reference. -/
theorem pack_eq (X0 X1 : Vec Ideal S128x128 .bf16) (j : S128x128.Idx) : gPack X0 X1 j
    = BitVec.setWidth 8 (IntOp.ori (Ideal.fptosi 32 (gEven X0 X1 j)) (IntOp.shli .host (Ideal.fptosi 32 (gOdd X0 X1 j)) 4#32)) := by
  unfold gPack
  generalize gEven X0 X1 = a
  generalize gOdd X0 X1 = b
  rfl

/-- The packed codes agree. -/
theorem codes_eq : CV (F := Ideal) (rowsOf (F := Ideal) x) = resC x := by
  funext y
  obtain ⟨r, c, rfl⟩ : ∃ (r : Fin 768) (c : Fin 1024), y = ix2 r c := ⟨y 0, y 1, by pointwise⟩
  refine Eq.trans ?_ (Cert.ReferenceIdeal.Stage.resC_apply x r c).symm
  have hG : (Fin.ofNat 16 (2 * (c.val / 128))).val = 2 * (c.val / 128) := by rw [Fin.val_ofNat]; omega
  have hH : (Fin.ofNat 16 (2 * (c.val / 128) + 1)).val = 2 * (c.val / 128) + 1 := by rw [Fin.val_ofNat]; omega
  refine (pack_eq _ _ _).trans ?_
  rw [← even_apply x r c _ _ (Fin.ofNat 128 c.val) hG hH (Fin.val_ofNat _ _),
    ← odd_apply x r c _ _ (Fin.ofNat 128 c.val) hG hH (Fin.val_ofNat _ _)]
  rfl

end Cert.Match

end
-- ==== Proof.Product.lean ====
/-
  The kernel's product is the reference's: the kernel sums over the even-numbered and then the odd-numbered activations
  of a row, the reference over a pair index and a number within the pair.
-/
module

public import proofs.«01_k».proof.Proof.Codes

@[expose] public section

set_option maxRecDepth 16384

noncomputable section

namespace Cert.Match

open Idealize.ShloMosaic Cert.KernelIdeal Cert.KernelIdeal.Gen Cert.KernelIdeal.Quant
open Cert.KernelIdeal.Run (rowsOf wpBlk wsBlk OV)
open Cert.ReferenceIdeal.Stage (grp resY AT AD WN WT)

variable (x : FVec Ideal S1x768x2048 .bf16)

/-! ## Activations -/

theorem deq_gen (a z s : FVec Ideal S128x128 .f32) (j : S128x128.Idx) :
    shapeCast S128x128 (mulf (truncf .bf16 (subf a z) bitsLt_bf16_f32) (truncf .bf16 s bitsLt_bf16_f32)) shapeCasts_S128x128_S128x128 j
      = (a j - z j) * s j := by
  rw [shapeCast_self]
  rfl

/-- A column for each of two neighbouring blocks, at pair `c` of a row. -/
theorem spread_pair (a b : FVec Ideal S128x1 .f32) (i L : Fin 128) :
    Quant.spread a b (ValueIdx.ix2 i L) = if L.val < 64 then a (ValueIdx.ix2 i 0) else b (ValueIdx.ix2 i 0) :=
  Quant.spread_apply a b _

theorem zp_pair (r : Fin 768) (c : Fin 1024) (G H : Fin 16) (L : Fin 128) (hG : G.val = 2 * (c.val / 128))
    (hH : H.val = 2 * (c.val / 128) + 1) (hL : L.val = c.val % 128) :
    Quant.spread (gz (blk (rowsOf (F := Ideal) x) (rowBlk r) G)) (gz (blk (rowsOf (F := Ideal) x) (rowBlk r) H)) (ValueIdx.ix2 (rowIn r) L)
      = Group.zp (grp x r ⟨c.val / 64, by omega⟩) := by
  rw [spread_pair, gz_apply, gz_apply, row_blk, row_blk]
  split
  · rw [show G = ⟨c.val / 64, by omega⟩ from Fin.ext (by show G.val = c.val / 64; omega)]
  · rw [show H = ⟨c.val / 64, by omega⟩ from Fin.ext (by show H.val = c.val / 64; omega)]

theorem sc_pair (r : Fin 768) (c : Fin 1024) (G H : Fin 16) (L : Fin 128) (hG : G.val = 2 * (c.val / 128))
    (hH : H.val = 2 * (c.val / 128) + 1) (hL : L.val = c.val % 128) :
    Quant.spread (gs (blk (rowsOf (F := Ideal) x) (rowBlk r) G)) (gs (blk (rowsOf (F := Ideal) x) (rowBlk r) H)) (ValueIdx.ix2 (rowIn r) L)
      = Group.sc (grp x r ⟨c.val / 64, by omega⟩) := by
  rw [spread_pair, gs_apply, gs_apply, row_blk, row_blk]
  split
  · rw [show G = ⟨c.val / 64, by omega⟩ from Fin.ext (by show G.val = c.val / 64; omega)]
  · rw [show H = ⟨c.val / 64, by omega⟩ from Fin.ext (by show H.val = c.val / 64; omega)]

theorem aEven_pair (r : Fin 768) (c : Fin 1024) (G H : Fin 16) (L : Fin 128) (hG : G.val = 2 * (c.val / 128))
    (hH : H.val = 2 * (c.val / 128) + 1) (hL : L.val = c.val % 128) :
    aEven (blk (rowsOf (F := Ideal) x) (rowBlk r) G) (blk (rowsOf (F := Ideal) x) (rowBlk r) H) (ValueIdx.ix2 (rowIn r) L)
      = AD x (ix4 0 r ⟨c.val / 64, by omega⟩ ⟨c.val % 64 * 2, by omega⟩) := by
  unfold aEven deq
  rw [deq_gen, even_apply x r c G H L hG hH hL, zp_pair x r c G H L hG hH hL, sc_pair x r c G H L hG hH hL,
    Cert.ReferenceIdeal.Stage.AD_apply]

theorem aOdd_pair (r : Fin 768) (c : Fin 1024) (G H : Fin 16) (L : Fin 128) (hG : G.val = 2 * (c.val / 128))
    (hH : H.val = 2 * (c.val / 128) + 1) (hL : L.val = c.val % 128) :
    aOdd (blk (rowsOf (F := Ideal) x) (rowBlk r) G) (blk (rowsOf (F := Ideal) x) (rowBlk r) H) (ValueIdx.ix2 (rowIn r) L)
      = AD x (ix4 0 r ⟨c.val / 64, by omega⟩ ⟨c.val % 64 * 2 + 1, by omega⟩) := by
  unfold aOdd deq
  rw [deq_gen, odd_apply x r c G H L hG hH hL, zp_pair x r c G H L hG hH hL, sc_pair x r c G H L hG hH hL,
    Cert.ReferenceIdeal.Stage.AD_apply]

/-- The kernel's dequantised activations in its two halves of columns are the reference's. -/
theorem act_lo (r : Fin 768) (k : Fin 1024) (K : Fin 2048) (hK : K.val = k.val) :
    AV (rowsOf (F := Ideal) x) (ix2 r K) = AT x (ix4 0 r 0 k) := by
  rw [Cert.ReferenceIdeal.Stage.AT_apply]
  have hm : K.val % 1024 = k.val := by omega
  have hG : (Fin.ofNat 16 (2 * (K.val % 1024 / 128))).val = 2 * (k.val / 128) := by rw [Fin.val_ofNat]; omega
  have hH : (Fin.ofNat 16 (2 * (K.val % 1024 / 128) + 1)).val = 2 * (k.val / 128) + 1 := by rw [Fin.val_ofNat]; omega
  have hL : (Fin.ofNat 128 K.val).val = k.val % 128 := by rw [Fin.val_ofNat]; omega
  show (if K.val < 1024 then aEven else aOdd) _ _ _ = _
  rw [if_pos (by omega)]
  exact aEven_pair x r k _ _ _ hG hH hL

theorem act_hi (r : Fin 768) (k : Fin 1024) (K : Fin 2048) (hK : K.val = 1024 + k.val) :
    AV (rowsOf (F := Ideal) x) (ix2 r K) = AT x (ix4 0 r 1 k) := by
  rw [Cert.ReferenceIdeal.Stage.AT_apply]
  have hm : K.val % 1024 = k.val := by omega
  have hG : (Fin.ofNat 16 (2 * (K.val % 1024 / 128))).val = 2 * (k.val / 128) := by rw [Fin.val_ofNat]; omega
  have hH : (Fin.ofNat 16 (2 * (K.val % 1024 / 128) + 1)).val = 2 * (k.val / 128) + 1 := by rw [Fin.val_ofNat]; omega
  have hL : (Fin.ofNat 128 K.val).val = k.val % 128 := by rw [Fin.val_ofNat]; omega
  show (if K.val < 1024 then aEven else aOdd) _ _ _ = _
  rw [if_neg (by omega)]
  exact aOdd_pair x r k _ _ _ hG hH hL

/-! ## Weights -/

theorem wElt_eq (up : BitVec 32) (h : up = 28#32 ∨ up = 24#32) (b : BitVec 8) (s : EReal) :
    wElt (F := Ideal) up b s = (((IntOp.shrsi .host (IntOp.shli .host (BitVec.setWidth 32 b) up) 28#32).toInt : ℝ) : EReal) * s := by
  rcases h with rfl | rfl <;> rfl

/-- A weight block's entry is the reference's weight, in either half of the columns. -/
theorem wt_half (wp : IVec S5632x1024 8) (ws : FVec Ideal S5632x16 .f32) (n : Fin 5632) (j : Fin 2) (k : Fin 1024) (N : Fin 512)
    (K : Fin 2048) (hN : N.val = n.val % 512) (hK : K.val = 1024 * j.val + k.val) :
    WV (F := Ideal) (wpBlk (F := Ideal) wp (Fin.ofNat 11 (n.val / 512))) (wsBlk (F := Ideal) ws (Fin.ofNat 11 (n.val / 512))) (ix2 N K)
      = WT wp ws (ix3 n j k) := by
  have hj : j.val = 0 ∨ j.val = 1 := by omega
  have hrow : 512 * (Fin.ofNat 11 (n.val / 512)).val + N.val = n.val := by rw [Fin.val_ofNat]; omega
  rw [Cert.ReferenceIdeal.Stage.WT_apply, Cert.ReferenceIdeal.Stage.WN_apply]
  refine (wElt_eq _ ?_ _ _).trans ?_
  · split
    · exact .inl rfl
    · exact .inr rfl
  have hb : wpBlk (F := Ideal) wp (Fin.ofNat 11 (n.val / 512)) (ValueIdx.ix2 N (Fin.ofNat 1024 K.val)) = wp (ix2 n k) :=
    congrArg wp (congrArg₂ (fun a b => ix2 a b) (Fin.ext hrow) (Fin.ext (by rw [Fin.val_ofNat]; omega)))
  have hs : wsBlk (F := Ideal) ws (Fin.ofNat 11 (n.val / 512)) (ValueIdx.ix2 N (Fin.ofNat 16 (K.val % 1024 / 64)))
      = ws (ix2 n ⟨k.val / 64, by omega⟩) :=
    congrArg ws (congrArg₂ (fun a b => ix2 a b) (Fin.ext hrow) (Fin.ext (by show K.val % 1024 / 64 % 16 = k.val / 64; omega)))
  have hu : (if K.val < 1024 then 28#32 else 24#32) = Cert.ReferenceIdeal.lit0 (Cert.ReferenceIdeal.S2.rowMajor (ix1 j)) := by
    rcases hj with h | h
    · rw [if_pos (by omega), show j = 0 from Fin.ext h]; decide +kernel
    · rw [if_neg (by omega), show j = 1 from Fin.ext h]; decide +kernel
  rw [← hb, ← hs, ← hu]
  rfl

/-! ## The product -/

theorem prod_gen (A : Vec Ideal S768x2048 .bf16) (W : Vec Ideal S512x2048 .bf16) (r : Fin 768) (n : Fin 512) :
    k0_pay243 A W (ix2 r n) = ∑ K : Fin 2048, A (ix2 r K) * W (ix2 n K) := by
  pointwise [k0_pay243]

/-- The products agree. -/
theorem product_eq (wp : IVec S5632x1024 8) (ws : FVec Ideal S5632x16 .f32) :
    OV (F := Ideal) (rowsOf (F := Ideal) x) wp ws = resY x wp ws := by
  funext y
  obtain ⟨r, n, rfl⟩ : ∃ (r : Fin 768) (n : Fin 5632), y = ix2 r n := ⟨y 0, y 1, by pointwise⟩
  refine Eq.trans ?_ (Cert.ReferenceIdeal.Stage.resY_apply x wp ws r n).symm
  refine (prod_gen (AV (rowsOf (F := Ideal) x)) (WV (F := Ideal) (wpBlk (F := Ideal) wp (Fin.ofNat 11 (n.val / 512)))
    (wsBlk (F := Ideal) ws (Fin.ofNat 11 (n.val / 512)))) r (Fin.ofNat 512 n.val)).trans ?_
  refine (Fin.sum_univ_add (a := 1024) (b := 1024) _).trans ?_
  rw [Fin.sum_univ_two]
  refine congrArg₂ (· + ·) (Finset.sum_congr rfl fun k _ => ?_) (Finset.sum_congr rfl fun k _ => ?_)
  · exact congrArg₂ (· * ·) (act_lo x r k _ rfl) (wt_half wp ws n 0 k _ _ (Fin.val_ofNat _ _) (by simp))
  · exact congrArg₂ (· * ·) (act_hi x r k _ rfl) (wt_half wp ws n 1 k _ _ (Fin.val_ofNat _ _) (by simp [Nat.add_comm]))

end Cert.Match

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.Product
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Both programs leave the reference's four results, as functions of the arguments, and leave the arguments alone. -/
theorem algebraic (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩
      (fun r => ∀ c : Dev KernelIdeal.nD,
        r.2.mem ((c.tc : Thread KernelIdeal.nD KernelIdeal.τ).loc KernelIdeal.main_v1_0)
            = ReferenceIdeal.Stage.resY (F := Ideal) (m ((c.tc : Thread KernelIdeal.nD KernelIdeal.τ).loc KernelIdeal.main_arg0))
              (m ((c.tc : Thread KernelIdeal.nD KernelIdeal.τ).loc KernelIdeal.main_arg1))
              (m ((c.tc : Thread KernelIdeal.nD KernelIdeal.τ).loc KernelIdeal.main_arg2))
        ∧ r.2.mem ((c.tc : Thread KernelIdeal.nD KernelIdeal.τ).loc KernelIdeal.main_v1_1)
            = ReferenceIdeal.Stage.resC (F := Ideal) (m ((c.tc : Thread KernelIdeal.nD KernelIdeal.τ).loc KernelIdeal.main_arg0))
        ∧ r.2.mem ((c.tc : Thread KernelIdeal.nD KernelIdeal.τ).loc KernelIdeal.main_v1_2)
            = ReferenceIdeal.Stage.resS (F := Ideal) (m ((c.tc : Thread KernelIdeal.nD KernelIdeal.τ).loc KernelIdeal.main_arg0))
        ∧ r.2.mem ((c.tc : Thread KernelIdeal.nD KernelIdeal.τ).loc KernelIdeal.main_v1_3)
            = ReferenceIdeal.Stage.resZ (F := Ideal) (m ((c.tc : Thread KernelIdeal.nD KernelIdeal.τ).loc KernelIdeal.main_arg0))) := by
  refine (θ_run _ _ _).mono (fun r h c => ?_) (KernelIdeal.Run.run (F := Ideal) m g)
  obtain ⟨hy, hc, hs, hz⟩ := h c
  exact ⟨hy.trans (Match.product_eq _ _ _), hc.trans (Match.codes_eq _), hs.trans (Match.scales_eq _), hz.trans (Match.zeros_eq _)⟩

theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Stage.frame m ρ, trivial, by
  intro m g m' g' _ hin
  refine ⟨fun c => ReferenceIdeal.Stage.resY (F := Ideal) (m ((c.tc : Thread KernelIdeal.nD KernelIdeal.τ).loc KernelIdeal.main_arg0))
              (m ((c.tc : Thread KernelIdeal.nD KernelIdeal.τ).loc KernelIdeal.main_arg1))
              (m ((c.tc : Thread KernelIdeal.nD KernelIdeal.τ).loc KernelIdeal.main_arg2)),
    fun c => ReferenceIdeal.Stage.resC (F := Ideal) (m ((c.tc : Thread KernelIdeal.nD KernelIdeal.τ).loc KernelIdeal.main_arg0)),
    fun c => ReferenceIdeal.Stage.resS (F := Ideal) (m ((c.tc : Thread KernelIdeal.nD KernelIdeal.τ).loc KernelIdeal.main_arg0)),
    fun c => ReferenceIdeal.Stage.resZ (F := Ideal) (m ((c.tc : Thread KernelIdeal.nD KernelIdeal.τ).loc KernelIdeal.main_arg0)), ?_, ?_⟩
  · refine (θ_run _ _ _).mono (fun r h c => ?_) (θ_run_and (algebraic m g) (KernelIdeal.Run.frame (F := Ideal) m g))
    obtain ⟨hy, hc, hs, hz⟩ := h.1 c
    exact ⟨hy, hc, hs, hz, h.2.1 c⟩
  · refine (θ_run _ _ _).mono (fun r h c => ?_) (ReferenceIdeal.Stage.run (F := Ideal) m' g')
    obtain ⟨hy, hc, hs, hz, ha⟩ := h c
    obtain ⟨h0, h1, h2⟩ := hin c
    refine ⟨hy.trans ?_, hc.trans ?_, hs.trans ?_, hz.trans ?_, ha⟩
    · exact congr (congrArg₂ (ReferenceIdeal.Stage.resY (F := Ideal)) h0 h1) h2
    · exact congrArg (ReferenceIdeal.Stage.resC (F := Ideal)) h0
    · exact congrArg (ReferenceIdeal.Stage.resS (F := Ideal)) h0
    · exact congrArg (ReferenceIdeal.Stage.resZ (F := Ideal)) h0⟩

end Cert.Proof

end
